-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_s [hPre_finite_s : Cert.Pre_finite_s.Facts] (m : (ℓ : Loc Cert.KernelIdeal.nD Cert.KernelIdeal.τ Cert.KernelIdeal.sig) → Buf (Elt Ideal) ℓ) : Prop :=
  ∀ c : Dev Cert.KernelIdeal.nD,
    (Cert.Pre_finite_s.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_s [hPre_finite_s : Cert.Pre_finite_s.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_s.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_s [hKernelIdeal : Cert.KernelIdeal.Facts] [hPre_finite_s : Cert.Pre_finite_s.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_s m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_s [hReferenceIdeal : Cert.ReferenceIdeal.Facts] [hPre_finite_s : Cert.Pre_finite_s.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_s m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_s [hKernelIdeal : Cert.KernelIdeal.Facts] [hReferenceIdeal : Cert.ReferenceIdeal.Facts] [hPre_finite_s : Cert.Pre_finite_s.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_s m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_s : Cert.Pre_finite_s.Facts),
    quiescent_Kernel (hKernel := hKernel)
    ∧ quiescent_KernelIdeal (hKernelIdeal := hKernelIdeal)
    ∧ quiescent_KernelIdeal_pre_finite_s (hKernelIdeal := hKernelIdeal) (hPre_finite_s := hPre_finite_s)
    ∧ quiescent_ReferenceIdeal (hReferenceIdeal := hReferenceIdeal)
    ∧ quiescent_ReferenceIdeal_pre_finite_s (hReferenceIdeal := hReferenceIdeal) (hPre_finite_s := hPre_finite_s)
    ∧ preserves_Kernel_KernelIdeal
    ∧ algebraic_KernelIdeal_ReferenceIdeal_pre_finite_s (hKernelIdeal := hKernelIdeal) (hReferenceIdeal := hReferenceIdeal) (hPre_finite_s := hPre_finite_s)
-- ==== Pre_finite_s.lean ====
abbrev S8x4096x1024 : Shape := ⟨3, ![8, 4096, 1024]⟩
abbrev S1024x1024 : Shape := ⟨2, ![1024, 1024]⟩
abbrev S1 : Shape := ⟨1, ![1]⟩
abbrev S1024x16 : Shape := ⟨2, ![1024, 16]⟩
abbrev S16x1024 : Shape := ⟨2, ![16, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S8x4096x1024 .f32) (main_arg1 : FVec F S1024x1024 .f32) (main_arg2 : FVec F S1 .f32) (main_arg3 : FVec F S1024x16 .f32) (main_arg4 : FVec F S16x1024 .f32) (main_arg5 : FVec F S1024x1024 .f32) (main_arg6 : FVec F S1024 .f32) (main_arg7 : FVec F S1024x1024 .f32) (main_arg8 : FVec F S1024 .f32) : IVec S_ 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Kernel.lean ====
abbrev S8x4096x1024 : Shape := ⟨3, ![8, 4096, 1024]⟩
abbrev S1024x1024 : Shape := ⟨2, ![1024, 1024]⟩
abbrev S1 : Shape := ⟨1, ![1]⟩
abbrev S1024x16 : Shape := ⟨2, ![1024, 16]⟩
abbrev S16x1024 : Shape := ⟨2, ![16, 1024]⟩
abbrev S1024 : Shape := ⟨1, ![1024]⟩
abbrev S_ : Shape := ⟨0, ![]⟩
abbrev S1024x112 : Shape := ⟨2, ![1024, 112]⟩
abbrev S1024x1152 : Shape := ⟨2, ![1024, 1152]⟩
abbrev S4096x8x1024 : Shape := ⟨3, ![4096, 8, 1024]⟩
abbrev S1x1024 : Shape := ⟨2, ![1, 1024]⟩
abbrev S1x1 : Shape := ⟨2, ![1, 1]⟩
abbrev S128x8x1024 : Shape := ⟨3, ![128, 8, 1024]⟩
abbrev S8x1024 : Shape := ⟨2, ![8, 1024]⟩
abbrev S128x1024 : Shape := ⟨2, ![128, 1024]⟩
abbrev S8x1152 : Shape := ⟨2, ![8, 1152]⟩
abbrev S8x16 : Shape := ⟨2, ![8, 16]⟩
abbrev S8x1 : Shape := ⟨2, ![8, 1]⟩
abbrev S1x8x1024 : Shape := ⟨3, ![1, 8, 1024]⟩

abbrev nBuf : Space → Nat
  | .hbm => 31
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024x16, .f32⟩
  | .hbm, ⟨4, _⟩ => ⟨S16x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x16, .f32⟩
  | .hbm, ⟨16, _⟩ => ⟨S_, .f32⟩
  | .hbm, ⟨17, _⟩ => ⟨S1024x112, .f32⟩
  | .hbm, ⟨18, _⟩ => ⟨S1024x1152, .f32⟩
  | .hbm, ⟨19, _⟩ => ⟨S4096x8x1024, .f32⟩
  | .hbm, ⟨20, _⟩ => ⟨S1024x1152, .bf16⟩
  | .hbm, ⟨21, _⟩ => ⟨S16x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1, .f32⟩
  | .hbm, ⟨29, _⟩ => ⟨S4096x8x1024, .f32⟩
  | .hbm, ⟨30, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S128x8x1024, .f32⟩
  | .local _ .vmem, ⟨5, _⟩ => ⟨S128x8x1024, .f32⟩
  | .local _ .vmem, ⟨6, _⟩ => ⟨S1024x1152, .bf16⟩
  | .local _ .vmem, ⟨7, _⟩ => ⟨S16x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1, .f32⟩
  | .local _ .vmem, ⟨13, _⟩ => ⟨S128x8x1024, .f32⟩
  | .local _ .vmem, ⟨14, _⟩ => ⟨S128x8x1024, .f32⟩
  | .local _ .vmem, ⟨15, _⟩ => ⟨S1024x1024, .f32⟩
  | .local _ .vmem, ⟨16, _⟩ => ⟨S1024x1024, .f32⟩
  | .local _ .vmem, ⟨17, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg8_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem8_1 : DmaSem sig := 12

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![32], ![false]⟩

@[reducible] def k1_t1_loop : Scf.Loop 32 :=
  let c0_i32_18 : BitVec 32 := 0#32
  let c8_i32 : BitVec 32 := 8#32
  let v31 : BitVec 32 := Scalar.addi c0_i32_18 c8_i32
  let c1_i32 : BitVec 32 := 1#32
  ⟨c0_i32_18, v31, c1_i32⟩
def k1_off1 (k1_t1 : Fin k1_t1_loop.trips) : Fin 2 → Nat :=
  let c0_i32_18 : BitVec 32 := 0#32
  let c1_i32 : BitVec 32 := 1#32
  let arg13 : BitVec 32 := Scf.iv c0_i32_18 c1_i32 k1_t1
  let c128_i32 : BitVec 32 := 128#32
  let v32 : BitVec 32 := Scalar.muli arg13 c128_i32
  let v33 : Index := Scalar.indexCast v32
  let c0_20 : Index := 0#32
  ![v33.toNat, 0]
def k1_off2 (k1_t1 : Fin k1_t1_loop.trips) (c0_i32_45 : BitVec 32) : Fin 3 → Nat :=
  let c0_i32_18 : BitVec 32 := 0#32
  let c1_i32 : BitVec 32 := 1#32
  let arg13 : BitVec 32 := Scf.iv c0_i32_18 c1_i32 k1_t1
  let c16_i32 : BitVec 32 := 16#32
  let v163 : BitVec 32 := Scalar.muli arg13 c16_i32
  let v164 : BitVec 32 := Scalar.addi v163 c0_i32_45
  let v165 : Index := Scalar.indexCast v164
  let c0_46 : Index := 0#32
  let c0_47 : Index := 0#32
  ![v165.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1152 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S8x4096x1024 : Shape := ⟨3, ![8, 4096, 1024]⟩
abbrev S1024x1024 : Shape := ⟨2, ![1024, 1024]⟩
abbrev S1 : Shape := ⟨1, ![1]⟩
abbrev S1024x16 : Shape := ⟨2, ![1024, 16]⟩
abbrev S16x1024 : Shape := ⟨2, ![16, 1024]⟩
abbrev S1024 : Shape := ⟨1, ![1024]⟩
abbrev S_ : Shape := ⟨0, ![]⟩
abbrev S1x1x1024 : Shape := ⟨3, ![1, 1, 1024]⟩
abbrev S8x1024 : Shape := ⟨2, ![8, 1024]⟩
abbrev S4096x8x1024 : Shape := ⟨3, ![4096, 8, 1024]⟩
abbrev S1x8x1024 : Shape := ⟨3, ![1, 8, 1024]⟩
abbrev S8x16 : Shape := ⟨2, ![8, 16]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024x16, .f32⟩
  | .hbm, ⟨4, _⟩ => ⟨S16x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x1024, .f32⟩
  | .hbm, ⟨71, _⟩ => ⟨S4096x8x1024, .f32⟩
  | .hbm, ⟨72, _⟩ => ⟨S4096x8x1024, .f32⟩
  | .hbm, ⟨73, _⟩ => ⟨S_, .f32⟩
  | .hbm, ⟨74, _⟩ => ⟨S4096x8x1024, .f32⟩
  | .hbm, ⟨75, _⟩ => ⟨S_, .i32⟩
  | .hbm, ⟨76, _⟩ => ⟨S4096x8x1024, .f32⟩
  | .hbm, ⟨77, _⟩ => ⟨S4096x8x1024, .f32⟩
  | .hbm, ⟨78, _⟩ => ⟨S16x1024, .f32⟩
  | .hbm, ⟨79, _⟩ => ⟨S1024x16, .f32⟩
  | .hbm, ⟨80, _⟩ => ⟨S1024x1024, .f32⟩
  | .hbm, ⟨81, _⟩ => ⟨S1, .f32⟩
  | .hbm, ⟨82, _⟩ => ⟨S_, .i32⟩
  | .hbm, ⟨83, _⟩ => ⟨S8x1024, .f32⟩
  | .hbm, ⟨84, _⟩ => ⟨S4096x8x1024, .f32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S1x8x1024, .f32⟩
  | .hbm, ⟨90, _⟩ => ⟨S8x1024, .f32⟩
  | .hbm, ⟨91, _⟩ => ⟨S_, .i32⟩
  | .hbm, ⟨92, _⟩ => ⟨S_, .i32⟩
  | .hbm, ⟨93, _⟩ => ⟨S1x8x1024, .f32⟩
  | .hbm, ⟨94, _⟩ => ⟨S8x1024, .f32⟩
  | .hbm, ⟨95, _⟩ => ⟨S1024x16, .f32⟩
  | .hbm, ⟨96, _⟩ => ⟨S8x16, .f32⟩
  | .hbm, ⟨97, _⟩ => ⟨S16x1024, .f32⟩
  | .hbm, ⟨98, _⟩ => ⟨S8x1024, .f32⟩
  | .hbm, ⟨99, _⟩ => ⟨S1024x1024, .f32⟩
  | .hbm, ⟨100, _⟩ => ⟨S8x1024, .f32⟩
  | .hbm, ⟨101, _⟩ => ⟨S1x1, .f32⟩
  | .hbm, ⟨102, _⟩ => ⟨S8x1024, .f32⟩
  | .hbm, ⟨103, _⟩ => ⟨S8x1024, .f32⟩
  | .hbm, ⟨104, _⟩ => ⟨S8x1024, .f32⟩
  | .hbm, ⟨105, _⟩ => ⟨S8x1024, .f32⟩
  | .hbm, ⟨106, _⟩ => ⟨S8x1024, .f32⟩
  | .hbm, ⟨107, _⟩ => ⟨S1x8x1024, .f32⟩
  | .hbm, ⟨108, _⟩ => ⟨S_, .i32⟩
  | .hbm, ⟨109, _⟩ => ⟨S_, .i32⟩
  | .hbm, ⟨110, _⟩ => ⟨S4096x8x1024, .f32⟩
  | .hbm, ⟨111, _⟩ => ⟨S_, .i32⟩
  | .hbm, ⟨112, _⟩ => ⟨S_, .i32⟩
  | .hbm, ⟨113, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_c_6 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_v58_3 : Ref sig .tc := ⟨.hbm, 79, rfl⟩
abbrev main_v58_4 : Ref sig .tc := ⟨.hbm, 80, rfl⟩
abbrev main_v58_5 : Ref sig .tc := ⟨.hbm, 81, rfl⟩
abbrev main_v58_6 : Ref sig .tc := ⟨.hbm, 82, rfl⟩
abbrev main_v58_7 : Ref sig .tc := ⟨.hbm, 83, rfl⟩
abbrev main_v58_8 : Ref sig .tc := ⟨.hbm, 84, rfl⟩
abbrev main_while0c_c_15 : Ref sig .tc := ⟨.hbm, 85, rfl⟩
abbrev main_while0c_v60 : Ref sig .tc := ⟨.hbm, 86, rfl⟩
abbrev main_while0b_call0_c : Ref sig .tc := ⟨.hbm, 87, rfl⟩
abbrev main_while0b_call0_c_0 : Ref sig .tc := ⟨.hbm, 88, rfl⟩
abbrev main_while0b_call0_v0 : Ref sig .tc := ⟨.hbm, 89, rfl⟩
abbrev main_while0b_v60 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_v0 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_call2_v0 : Ref sig .tc := ⟨.hbm, 107, rfl⟩
abbrev main_while0b_call2_c : Ref sig .tc := ⟨.hbm, 108, rfl⟩
abbrev main_while0b_call2_c_0 : Ref sig .tc := ⟨.hbm, 109, rfl⟩
abbrev main_while0b_v74 : Ref sig .tc := ⟨.hbm, 110, rfl⟩
abbrev main_while0b_c_15 : Ref sig .tc := ⟨.hbm, 111, rfl⟩
abbrev main_while0b_v75 : Ref sig .tc := ⟨.hbm, 112, rfl⟩
abbrev main_v59 : Ref sig .tc := ⟨.hbm, 113, rfl⟩

abbrev nD : Nat := 1
abbrev τ : Topo := Topo.v7x

variable {F : FTy → Type} [FloatOps F]

abbrev main_while0_count : Scf.Loop 32 := ⟨0#32, 4096#32, 1#32⟩
-- ==== Proof.CayleyRegion.lean ====
/- The first pallas_call, `_cayley_kernel`: the run of its body on any whole staging buffers, what it
   leaves in its result, and the obligation its pipeline discharges, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- `V`: the contents of the core's buffers when the region is entered
variable (V : (c : Dev nD) → (b : Ref sig .tc) → Buf (Elt F) ((c : Thread nD τ).loc b))

/-! # The first pallas_call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S1024x1024 .f32 := (Memref.whole cc0_stg1_0 : Memref sig .tc .vmem S1024x1024 .f32).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 0
abbrev ms0_1 (t : Fin cfg0.N) : Memref sig .tc .vmem S1024x1024 .f32 := win0_1.stage (cfg0.slots t 1)
abbrev hs0_1 (t : Fin cfg0.N) : (ms0_1 t).IsWhole := hstage0_1 0
/-- The scratch operands: whole scoped buffers of the kernel's own, passed beside the windows. -/
abbrev scM0_0 : Memref sig .tc .vmem S1024x1024 .f32 := Memref.whole cc0_scratch0
abbrev scM0_1 : Memref sig .tc .vmem S1024x1024 .f32 := Memref.whole cc0_scratch1

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs; the pieces are
    the witness that run finds (assigned when `iexact` hands the buffer to the continuation). -/
noncomputable def kernelRun0_A (c : Dev nD) (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole)
    (x0 : Vec F S1024x1024 .f32) :
    Σ' (L1 : List (View.Piece (Elt F) S1024x1024 .f32)), Σ' (LT0 : List (View.Piece (Elt F) S1024x1024 .f32)), { LT1 : List (View.Piece (Elt F) S1024x1024 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f LT0) ∗ (∃ f, arg3.view.loc (c : Thread nD τ) ↦[arg3.view.set]{fullShare} arg3.view.writes (Elt F) f LT1)) -∗ K ⟨⟩))
          ⊢ wp frame (wpE (defs₀ (F := F)) Variants.none c none) E (cc0__cayley_kernel arg0 harg0 arg1 harg1 arg2 harg2 arg3 harg3) K } := by
  refine ⟨?_, ?_, ?_, fun E K => ?run⟩
  case run =>
    simp only [cc0__cayley_kernel_eq_skeleton]; unfold cc0__cayley_kernel_skel
    simp only [k0_part4_eq_skeleton, k0_part1_eq_skeleton, k0_part2_eq_skeleton, k0_part3_eq_skeleton]
    unfold owns
    iintro ⟨⟨%f0, %hf0, H0⟩, ⟨%d1, %f1, -, H1⟩, ⟨%ds0, %fs0, -, HS0⟩, ⟨%ds1, %fs1, -, HS1⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [HS0]; · iexists _; iexact HS0
    iexists _; iexact HS1

/-- The run's pieces for output 1 tile its block (one store of the whole block), so they cover it. -/
theorem cover0_A_1 (c : Dev nD) (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole)
    (x0 : Vec F S1024x1024 .f32) (y : S1024x1024.Idx) :
    ∃ pc ∈ (kernelRun0_A c arg0 harg0 arg1 harg1 arg2 harg2 arg3 harg3 x0).1, y ∈ pc.1.set :=
  View.cover_of_tiledL (kernelRun0_A c arg0 harg0 arg1 harg1 arg2 harg2 arg3 harg3 x0).1 S1024x1024.size (by sl_kernel_rfl) y

/-- What the run leaves in output 1's staging buffer: its pieces read back over junk. -/
def out0_A_1 (c : Dev nD) (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole)
    (x0 : Vec F S1024x1024 .f32) : Vec F S1024x1024 .f32 :=
  VO0_1.read (Elt F) (VO0_1.writes (Elt F) VO0_1.junk (kernelRun0_A c arg0 harg0 arg1 harg1 arg2 harg2 arg3 harg3 x0).1)

/-! ## What the outputs hold after each point -/

/-- What the outputs' staging buffers hold after the body at point `t`: the run's contents at
    the point's memrefs and input blocks. -/
def outsAt0 (c : Dev nD) (t : Fin cfg0.N) : Vec F S1024x1024 .f32 :=
  out0_A_1 c (ms0_0 t) (hs0_0 t) (ms0_1 t) (hs0_1 t) scM0_0 (Memref.isWhole_whole _) scM0_1 (Memref.isWhole_whole _) (iblk0 V c 0 t)

/-! ## The pipeline's proof data -/

/-- The proof data of pipeline 0 on core `c`: the arrays as the region finds them (`V`); after the body at
    point `t` each input's buffer at its block and the outputs' at `outsAt0`; the invariant the class's
    (`ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  rw [show (dat0 V c).Φ t.castSucc = Pipeline.ΦA spec0 c from rfl, PhiA0_eq]
  unfold outsAt0
  unfold out0_A_1
  iintro ⟨⟨⟨HS0, HS1, HR2, HR3, HR4, HR5, HR6, HR7, HR8, HR9, HR10, HR11, HR12, HR13, HR14, HR15⟩, Hg⟩, Ho, ⟨%d0, H0⟩, ⟨%d1, H1⟩⟩
  iapply ((kernelRun0_A c _ _ _ _ _ _ _ _ (iblk0 V c 0 t)).2.2.2 Set.univ _)
  isplitl [H0]; · iexact H0
  isplitl [H1]; · iexists _; iexact H1
  isplitl [HS0]; · iexact HS0
  isplitl [HS1]; · iexact HS1
  iintro ⟨H0, ⟨%e1, H1⟩, ⟨%fT0, HS0⟩, ⟨%fT1, HS1⟩⟩
  isplitl [HS0 HS1 HR2 HR3 HR4 HR5 HR6 HR7 HR8 HR9 HR10 HR11 HR12 HR13 HR14 HR15 Hg]
  · isplitl [HS0 HS1 HR2 HR3 HR4 HR5 HR6 HR7 HR8 HR9 HR10 HR11 HR12 HR13 HR14 HR15]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      iexact HR15
    iexact Hg
  isplitl [Ho]; · iexact Ho
  isplitl [H0]; · iexact H0
  unfold owns; iexists _; isplitr
  swap; · iexact H1
  ipureintro; exact View.read_writes_of_cover _ _ _ _ _ (cover0_A_1 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Regions

end Cert.KernelIdeal.Whole

end
-- ==== Proof.ScanBlocks.lean ====
/- The second pallas_call, `_holo_net_vault_scan`: the blocks its windows stage at each grid point, the
   condition its body branches on, and the staging and scratch buffers its body runs on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- `V`: the contents of the core's buffers when the region is entered
variable (V : (c : Dev nD) → (b : Ref sig .tc) → Buf (Elt F) ((c : Thread nD τ).loc b))

/-! # REGION 1 of @main: custom_call 1, `cc1_holo_net_vault_scan` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not it was fetched there, for
    any proof data whose array is `V`'s and whose body leaves the block in place. -/
theorem before1_of {c : Dev nD} (dat : Dat τ (Elt F) Unit ℕ (UR sig nD τ) ℕ cfg1 c) (w : Fin cfg1.W) (hw : (cfg1.win w).isOut = false)
    (hclip : ∀ t t' : Fin cfg1.N, (cfg1.win w).clip (cfg1.grid.coords t) = (cfg1.win w).clip (cfg1.grid.coords t'))
    (hA : dat.A w = V c (Pipeline.arrRef spec1 w))
    (hafter : ∀ t, (cfg1.win w).cut (cfg1.grid.coords t) (dat.after w t) = iblk1 V c w t) (t : Fin cfg1.N) (d) :
    dat.before w t d = dat.fetched w t d :=
  dat.before_in_eq_fetched w hw (fun _ => rfl) (fun t t' _ => hclip t t') (fun t => by rw [hafter]; unfold Dat.blockOf iblk1; rw [hA]) t d

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The kernel body on any staging memrefs: a subtype the run finds -/

/-- One staging buffer of output window 8, through which its contents are stated (`View.read_writes_of_cover`: the
    choice does not matter). -/
abbrev VO1_8 : View sig .tc .vmem S128x8x1024 .f32 := (Memref.whole cc1_stg8_0 : Memref sig .tc .vmem S128x8x1024 .f32).view
/-- Each window's current staging memref at point `t`, spelled as the pipeline passes it (`bodyAt1`), and its wholeness. -/
abbrev ms1_0 (t : Fin cfg1.N) : Memref sig .tc .vmem S128x8x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1152 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x8x1024 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S1024x1024 .f32 := Memref.whole cc1_scratch0
abbrev scM1_1 : Memref sig .tc .vmem S1024x1024 .f32 := Memref.whole cc1_scratch1
abbrev scM1_2 : Memref sig .tc .vmem S8x1024 .f32 := Memref.whole cc1_scratch2

/-- The scratch `arg12` the kernel carries between points, as a view: what it holds is stated through it. -/
abbrev VS1_2 : View sig .tc .vmem S8x1024 .f32 := scM1_2.view

/-- The frame kit's invariant with the scratch operands as memrefs owned at some contents (`Gen.scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Regions

end Cert.KernelIdeal.Whole

end
-- ==== Proof.ScanTrip.lean ====
/- What one trip of the scan kernel's loop stores: sixteen steps of the recurrence, each from the state the step before it left. -/
module

public import proofs.«01_k».proof.Proof.Gen.KernelIdeal.Loops
public import Idealize.ShloMosaic.Lib.Tactic

@[expose] public section

set_option maxRecDepth 65536

noncomputable section

namespace Cert.KernelIdeal.Whole

open Cert.KernelIdeal.Gen
open Idealize.ShloMosaic Idealize.ShloMosaic.TcCoe Idealize.ShloMosaic.Tactic
open Idealize.SL.Sem

variable {F : FTy → Type} [FloatOps F]

/-- One step of the recurrence as the kernel computes it: from the gate `gam`, the joint matrix `w1`, the sixteen rows `a` of the low-rank factor, the step's
gate and input rows `g`, `u` and the state `h`. -/
def scanStep (gam : FVec F S1x1 .f32) (w1 : Vec F S1024x1152 .bf16) (a : Fin 16 → Vec F S1x1024 .f32) (g u : FVec F S8x1024 .f32) (h : FVec F S8x1024 .f32) :
    FVec F S8x1024 .f32 :=
  k1_pay13 gam g u (k1_pay7 h w1) (k1_pay8 h w1)
    (k1_pay10 (k1_pay8 h w1) (k1_pay9 h w1 (a 0) (a 1) (a 2) (a 3)) (a 4) (a 5) (a 6) (a 7) (a 8) (a 9)) (k1_pay11 (a 10)) (k1_pay12 (k1_pay8 h w1))
    (a 11) (a 12) (a 13) (a 14) (a 15)

theorem slices_step (s : Fin 16) : S128x1024.Slices ![8 * s.val, 0] S8x1024 :=
  ⟨rfl, fun a => by
    have := s.isLt
    match a with
    | ⟨0, _⟩ => show 8 * s.val + 8 ≤ 128; omega
    | ⟨1, _⟩ => show 0 + 1024 ≤ 1024; omega⟩

/-- The eight rows of step `s` among the hundred and twenty-eight rows of a trip. -/
def rowsOf (v : Vec F S128x1024 .f32) (s : ℕ) : FVec F S8x1024 .f32 :=
  extractStridedSlice S8x1024 ![8 * (Fin.ofNat 16 s).val, 0] v (slices_step (Fin.ofNat 16 s))

/-- The states through a trip: after `s` steps from `h`. -/
def tripState (gam : FVec F S1x1 .f32) (w1 : Vec F S1024x1152 .bf16) (a : Fin 16 → Vec F S1x1024 .f32) (G U : Vec F S128x1024 .f32)
    (h : FVec F S8x1024 .f32) : ℕ → FVec F S8x1024 .f32
  | 0 => h
  | s + 1 => scanStep gam w1 a (rowsOf G s) (rowsOf U s) (tripState gam w1 a G U h s)

theorem inb_row (j : Fin 16) : ∀ a, (![j.val, 0] : Fin 2 → Nat) a + S1x1024.size a ≤ S16x1024.size a := by
  intro a
  have := j.isLt
  match a with
  | ⟨0, _⟩ => show j.val + 1 ≤ 16; omega
  | ⟨1, _⟩ => show 0 + 1024 ≤ 1024; omega

/-- The states through trip `k`, from what the memrefs hold on entry to it. -/
def tripStateAt (arg2 : Memref sig .tc .vmem S1024x1152 .bf16) (arg3 : Memref sig .tc .vmem S16x1024 .f32) (arg10 arg11 : Memref sig .tc .vmem S1024x1024 .f32)
    (arg12 : Memref sig .tc .vmem S8x1024 .f32) (v6 : FVec F S1x1 .f32)
    (X_arg2 : BufTy.Contents (Elt F) arg2.view.ty) (X_arg3 : BufTy.Contents (Elt F) arg3.view.ty) (X_arg10 : BufTy.Contents (Elt F) arg10.view.ty)
    (X_arg11 : BufTy.Contents (Elt F) arg11.view.ty) (k : Fin k1_t1_loop.trips) (f_arg12 : BufTy.Contents (Elt F) arg12.view.ty) : ℕ → FVec F S8x1024 .f32 :=
  tripState v6 (View.readAt (Elt F) arg2.view (Rect.unit (s := S1024x1152) ![0, 0] ![1024, 1152] inb_S1024x1152_S1024x1152_0_0).toLoadRect X_arg2)
    (fun j => View.readAt (Elt F) arg3.view (Rect.unit (s := S16x1024) ![j.val, 0] ![1, 1024] (inb_row j)).toLoadRect X_arg3)
    (View.readAt (Elt F) arg10.view (Rect.unit (s := S1024x1024) (k1_off1 k) S128x1024.size (k1_off1_inb k)).toLoadRect X_arg10)
    (View.readAt (Elt F) arg11.view (Rect.unit (s := S1024x1024) (k1_off1 k) S128x1024.size (k1_off1_inb k)).toLoadRect X_arg11)
    (View.readAt (Elt F) arg12.view (Rect.unit (s := S8x1024) ![0, 0] ![8, 1024] inb_S8x1024_S8x1024_0_0).toLoadRect f_arg12)

/-- What a trip stores in the output: the sixteen states, newest first. -/
theorem trip_out (𝒱 : Variants) (c : Dev nD) (bd : Option 𝒱.V) (i : grid1.Coords) (arg1 : Memref sig .tc .vmem S128x8x1024 .f32) (harg1 : arg1.IsWhole) (arg2 : Memref sig .tc .vmem S1024x1152 .bf16) (harg2 : arg2.IsWhole) (arg3 : Memref sig .tc .vmem S16x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1 .f32) (harg8 : arg8.IsWhole) (arg9 : Memref sig .tc .vmem S128x8x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (v6 : FVec F S1x1 .f32) (c0_i32_18 : BitVec 32) (c1_i32 : BitVec 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (k : Fin k1_t1_loop.trips) (f_arg9 : BufTy.Contents (Elt F) arg9.view.ty) (f_arg12 : BufTy.Contents (Elt F) arg12.view.ty) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 k).1 f_arg9 f_arg12 =
    [ ⟨Rect.unit (s := S128x8x1024) (k1_off2 k (BitVec.ofNat 32 15)) ![1, 8, 1024] (k1_off2_inb k 15),
        shapeCast S1x8x1024 (tripStateAt arg2 arg3 arg10 arg11 arg12 v6 X_arg2 X_arg3 X_arg10 X_arg11 k f_arg12 16) shapeCasts_S8x1024_S1x8x1024⟩,
      ⟨Rect.unit (s := S128x8x1024) (k1_off2 k (BitVec.ofNat 32 14)) ![1, 8, 1024] (k1_off2_inb k 14),
        shapeCast S1x8x1024 (tripStateAt arg2 arg3 arg10 arg11 arg12 v6 X_arg2 X_arg3 X_arg10 X_arg11 k f_arg12 15) shapeCasts_S8x1024_S1x8x1024⟩,
      ⟨Rect.unit (s := S128x8x1024) (k1_off2 k (BitVec.ofNat 32 13)) ![1, 8, 1024] (k1_off2_inb k 13),
        shapeCast S1x8x1024 (tripStateAt arg2 arg3 arg10 arg11 arg12 v6 X_arg2 X_arg3 X_arg10 X_arg11 k f_arg12 14) shapeCasts_S8x1024_S1x8x1024⟩,
      ⟨Rect.unit (s := S128x8x1024) (k1_off2 k (BitVec.ofNat 32 12)) ![1, 8, 1024] (k1_off2_inb k 12),
        shapeCast S1x8x1024 (tripStateAt arg2 arg3 arg10 arg11 arg12 v6 X_arg2 X_arg3 X_arg10 X_arg11 k f_arg12 13) shapeCasts_S8x1024_S1x8x1024⟩,
      ⟨Rect.unit (s := S128x8x1024) (k1_off2 k (BitVec.ofNat 32 11)) ![1, 8, 1024] (k1_off2_inb k 11),
        shapeCast S1x8x1024 (tripStateAt arg2 arg3 arg10 arg11 arg12 v6 X_arg2 X_arg3 X_arg10 X_arg11 k f_arg12 12) shapeCasts_S8x1024_S1x8x1024⟩,
      ⟨Rect.unit (s := S128x8x1024) (k1_off2 k (BitVec.ofNat 32 10)) ![1, 8, 1024] (k1_off2_inb k 10),
        shapeCast S1x8x1024 (tripStateAt arg2 arg3 arg10 arg11 arg12 v6 X_arg2 X_arg3 X_arg10 X_arg11 k f_arg12 11) shapeCasts_S8x1024_S1x8x1024⟩,
      ⟨Rect.unit (s := S128x8x1024) (k1_off2 k (BitVec.ofNat 32 9)) ![1, 8, 1024] (k1_off2_inb k 9),
        shapeCast S1x8x1024 (tripStateAt arg2 arg3 arg10 arg11 arg12 v6 X_arg2 X_arg3 X_arg10 X_arg11 k f_arg12 10) shapeCasts_S8x1024_S1x8x1024⟩,
      ⟨Rect.unit (s := S128x8x1024) (k1_off2 k (BitVec.ofNat 32 8)) ![1, 8, 1024] (k1_off2_inb k 8),
        shapeCast S1x8x1024 (tripStateAt arg2 arg3 arg10 arg11 arg12 v6 X_arg2 X_arg3 X_arg10 X_arg11 k f_arg12 9) shapeCasts_S8x1024_S1x8x1024⟩,
      ⟨Rect.unit (s := S128x8x1024) (k1_off2 k (BitVec.ofNat 32 7)) ![1, 8, 1024] (k1_off2_inb k 7),
        shapeCast S1x8x1024 (tripStateAt arg2 arg3 arg10 arg11 arg12 v6 X_arg2 X_arg3 X_arg10 X_arg11 k f_arg12 8) shapeCasts_S8x1024_S1x8x1024⟩,
      ⟨Rect.unit (s := S128x8x1024) (k1_off2 k (BitVec.ofNat 32 6)) ![1, 8, 1024] (k1_off2_inb k 6),
        shapeCast S1x8x1024 (tripStateAt arg2 arg3 arg10 arg11 arg12 v6 X_arg2 X_arg3 X_arg10 X_arg11 k f_arg12 7) shapeCasts_S8x1024_S1x8x1024⟩,
      ⟨Rect.unit (s := S128x8x1024) (k1_off2 k (BitVec.ofNat 32 5)) ![1, 8, 1024] (k1_off2_inb k 5),
        shapeCast S1x8x1024 (tripStateAt arg2 arg3 arg10 arg11 arg12 v6 X_arg2 X_arg3 X_arg10 X_arg11 k f_arg12 6) shapeCasts_S8x1024_S1x8x1024⟩,
      ⟨Rect.unit (s := S128x8x1024) (k1_off2 k (BitVec.ofNat 32 4)) ![1, 8, 1024] (k1_off2_inb k 4),
        shapeCast S1x8x1024 (tripStateAt arg2 arg3 arg10 arg11 arg12 v6 X_arg2 X_arg3 X_arg10 X_arg11 k f_arg12 5) shapeCasts_S8x1024_S1x8x1024⟩,
      ⟨Rect.unit (s := S128x8x1024) (k1_off2 k (BitVec.ofNat 32 3)) ![1, 8, 1024] (k1_off2_inb k 3),
        shapeCast S1x8x1024 (tripStateAt arg2 arg3 arg10 arg11 arg12 v6 X_arg2 X_arg3 X_arg10 X_arg11 k f_arg12 4) shapeCasts_S8x1024_S1x8x1024⟩,
      ⟨Rect.unit (s := S128x8x1024) (k1_off2 k (BitVec.ofNat 32 2)) ![1, 8, 1024] (k1_off2_inb k 2),
        shapeCast S1x8x1024 (tripStateAt arg2 arg3 arg10 arg11 arg12 v6 X_arg2 X_arg3 X_arg10 X_arg11 k f_arg12 3) shapeCasts_S8x1024_S1x8x1024⟩,
      ⟨Rect.unit (s := S128x8x1024) (k1_off2 k (BitVec.ofNat 32 1)) ![1, 8, 1024] (k1_off2_inb k 1),
        shapeCast S1x8x1024 (tripStateAt arg2 arg3 arg10 arg11 arg12 v6 X_arg2 X_arg3 X_arg10 X_arg11 k f_arg12 2) shapeCasts_S8x1024_S1x8x1024⟩,
      ⟨Rect.unit (s := S128x8x1024) (k1_off2 k (BitVec.ofNat 32 0)) ![1, 8, 1024] (k1_off2_inb k 0),
        shapeCast S1x8x1024 (tripStateAt arg2 arg3 arg10 arg11 arg12 v6 X_arg2 X_arg3 X_arg10 X_arg11 k f_arg12 1) shapeCasts_S8x1024_S1x8x1024⟩ ] := by
  sl_kernel_rfl

/-- What a trip leaves in the carried state: the sixteenth. -/
theorem trip_state (𝒱 : Variants) (c : Dev nD) (bd : Option 𝒱.V) (i : grid1.Coords) (arg1 : Memref sig .tc .vmem S128x8x1024 .f32) (harg1 : arg1.IsWhole) (arg2 : Memref sig .tc .vmem S1024x1152 .bf16) (harg2 : arg2.IsWhole) (arg3 : Memref sig .tc .vmem S16x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1 .f32) (harg8 : arg8.IsWhole) (arg9 : Memref sig .tc .vmem S128x8x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (v6 : FVec F S1x1 .f32) (c0_i32_18 : BitVec 32) (c1_i32 : BitVec 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (k : Fin k1_t1_loop.trips) (f_arg9 : BufTy.Contents (Elt F) arg9.view.ty) (f_arg12 : BufTy.Contents (Elt F) arg12.view.ty) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 k).2.1 f_arg9 f_arg12 =
    [⟨Rect.unit (s := S8x1024) ![0, 0] ![8, 1024] inb_S8x1024_S8x1024_0_0, shapeCast S8x1024 (tripStateAt arg2 arg3 arg10 arg11 arg12 v6 X_arg2 X_arg3 X_arg10 X_arg11 k f_arg12 16) shapeCasts_S8x1024_S8x1024⟩] := by
  sl_kernel_rfl

end Cert.KernelIdeal.Whole
-- ==== Proof.ScanPoint.lean ====
/- What a grid point of the scan kernel computes: a hundred and twenty-eight steps of the recurrence, and that the kernel's loop of eight trips leaves them. -/
module

public import proofs.«01_k».proof.Proof.ScanTrip
public import Idealize.ShloMosaic.Lib.PointwiseCore
public import Idealize.ShloMosaic.Lib.VecWindow

@[expose] public section

set_option maxRecDepth 16384

noncomputable section

namespace Cert.KernelIdeal.Whole

open Cert.KernelIdeal.Gen
open Idealize.ShloMosaic Idealize.ShloMosaic.TcCoe Idealize.ShloMosaic.Tactic
open Idealize.SL.Sem

variable {F : FTy → Type} [FloatOps F]

/-- The eight rows of time step `r` of a point's block, rows ordered by time step first. -/
def rows8 (v : Vec F S1024x1024 .f32) (r : ℕ) : FVec F S8x1024 .f32 :=
  fun y => v (ix2 (⟨8 * (r % 128) + (y 0).val, by
    have : (y 0).val < 8 := (y 0).isLt
    omega⟩ : Fin 1024) (y 1))

/-- Row `j` of the low-rank factor, as a one-row matrix. -/
def rowOf (a : Vec F S16x1024 .f32) (j : Fin 16) : Vec F S1x1024 .f32 := fun y => a (ix2 j (y 1))

/-- The states through a grid point: after `r` time steps from `h`. -/
def pointState (gam : FVec F S1x1 .f32) (w1 : Vec F S1024x1152 .bf16) (a : Vec F S16x1024 .f32) (G U : Vec F S1024x1024 .f32) (h : FVec F S8x1024 .f32) :
    ℕ → FVec F S8x1024 .f32
  | 0 => h
  | r + 1 => scanStep gam w1 (rowOf a) (rows8 G r) (rows8 U r) (pointState gam w1 a G U h r)

/-- The block a grid point stores: at each time step, the state after that step. -/
def pointOut (gam : FVec F S1x1 .f32) (w1 : Vec F S1024x1152 .bf16) (a : Vec F S16x1024 .f32) (G U : Vec F S1024x1024 .f32) (h : FVec F S8x1024 .f32) :
    Vec F S128x8x1024 .f32 :=
  fun y => pointState gam w1 a G U h ((y 0).val + 1) (ix2 (y 1) (y 2))

/-- The sixteen states a trip goes through are the next sixteen of the point. -/
theorem tripState_eq_pointState (gam : FVec F S1x1 .f32) (w1 : Vec F S1024x1152 .bf16) (a : Vec F S16x1024 .f32) (G U : Vec F S1024x1024 .f32) (h : FVec F S8x1024 .f32)
    (a' : Fin 16 → Vec F S1x1024 .f32) (G' U' : Vec F S128x1024 .f32) (k : ℕ) (ha : a' = rowOf a)
    (hG : ∀ s, s < 16 → rowsOf G' s = rows8 G (16 * k + s)) (hU : ∀ s, s < 16 → rowsOf U' s = rows8 U (16 * k + s)) (s : ℕ) (hs : s ≤ 16) :
    tripState gam w1 a' G' U' (pointState gam w1 a G U h (16 * k)) s = pointState gam w1 a G U h (16 * k + s) := by
  induction s with
  | zero => rfl
  | succ s ih =>
    rw [tripState, ih (by omega), hG s (by omega), hU s (by omega), ha]
    rfl

/-- A trip's window of a scratch of 1024 rows, by the eight rows of each step. -/
theorem rowsOf_readAt (v : View sig .tc .vmem S1024x1024 .f32) (X : v.ty.Contents (Elt F)) (k : Fin k1_t1_loop.trips) (s : ℕ) (hs : s < 16) :
    rowsOf (v.readAt (Elt F) (Rect.unit (s := S1024x1024) (k1_off1 k) S128x1024.size (k1_off1_inb k)).toLoadRect X) s
      = rows8 (v.read (Elt F) X) (16 * k.val + s) := by
  have hk : k.val < 8 := Nat.lt_of_lt_of_le k.isLt k1_t1_abs.2.1
  have e := k1_off1_eq k
  funext y
  refine congrArg (v.read (Elt F) X) (funext fun a => Fin.ext ?_)
  have hy : (y 0).val < 8 := (y 0).isLt
  match a with
  | ⟨0, _⟩ =>
    show k1_off1 k 0 + 1 * (8 * (s % 16) + (y 0).val) = 8 * ((16 * k.val + s) % 128) + (y 0).val
    have : k1_off1 k 0 = 128 * k.val := congrFun e 0
    omega
  | ⟨1, _⟩ =>
    show k1_off1 k 1 + 1 * (0 + (y 1).val) = (y 1).val
    have : k1_off1 k 1 = 0 := congrFun e 1
    omega

/-- The rows of the low-rank factor as the kernel loads them. -/
theorem rowOf_readAt (v : View sig .tc .vmem S16x1024 .f32) (X : v.ty.Contents (Elt F)) :
    (fun j : Fin 16 => v.readAt (Elt F) (Rect.unit (s := S16x1024) ![j.val, 0] ![1, 1024] (inb_row j)).toLoadRect X) = rowOf (v.read (Elt F) X) := by
  funext j y
  refine congrArg (v.read (Elt F) X) (funext fun a => Fin.ext ?_)
  have hy : (y 0).val < 1 := (y 0).isLt
  match a with
  | ⟨0, _⟩ => show j.val + 1 * (y 0).val = j.val; omega
  | ⟨1, _⟩ => show 0 + 1 * (y 1).val = (y 1).val; omega

/-- A store of one time step's eight rows, read back: its payload there, what was there before elsewhere. -/
theorem read_writes_step (v : View sig .tc .vmem S128x8x1024 .f32) (f : v.ty.Contents (Elt F)) {off : Fin 3 → ℕ} (inb : ∀ a, off a + S1x8x1024.size a ≤ S128x8x1024.size a)
    (w : S1x8x1024.Idx → Elt F .f32) (L : List (View.Piece (Elt F) S128x8x1024 .f32)) (y : S128x8x1024.Idx) (r : ℕ) (h : off = ![r, 0, 0]) :
    v.read (Elt F) (v.writes (Elt F) f ((⟨Rect.unit (s := S128x8x1024) off S1x8x1024.size inb, w⟩ : View.Piece (Elt F) S128x8x1024 .f32) :: L)) y
      = if (y 0).val = r then w (ix3 (0 : Fin 1) (y 1) (y 2)) else v.read (Elt F) (v.writes (Elt F) f L) y := by
  by_cases hr : (y 0).val = r
  · rw [if_pos hr]
    refine View.read_writes_cons_unit_of_mem v f inb w L y (ix3 (0 : Fin 1) (y 1) (y 2)) h fun a => ?_
    match a with
    | ⟨0, _⟩ => exact hr
    | ⟨1, _⟩ => exact (Nat.zero_add _).symm
    | ⟨2, _⟩ => exact (Nat.zero_add _).symm
  · rw [if_neg hr]
    refine View.read_writes_cons_unit_of_not_mem v f inb w L y h 0 ?_
    show (y 0).val < r ∨ r + 1 ≤ (y 0).val
    omega

/-- A state as a one-step block, read. -/
theorem shapeCast_step (x : FVec F S8x1024 .f32) (b : Fin 8) (d : Fin 1024) :
    shapeCast S1x8x1024 x shapeCasts_S8x1024_S1x8x1024 (ix3 (0 : Fin 1) b d) = x (ix2 b d) := by
  pointwise

section Trip

variable (𝒱 : Variants) (c : Dev nD) (bd : Option 𝒱.V) (i : grid1.Coords) (arg1 : Memref sig .tc .vmem S128x8x1024 .f32) (harg1 : arg1.IsWhole) (arg2 : Memref sig .tc .vmem S1024x1152 .bf16) (harg2 : arg2.IsWhole) (arg3 : Memref sig .tc .vmem S16x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1 .f32) (harg8 : arg8.IsWhole) (arg9 : Memref sig .tc .vmem S128x8x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (v6 : FVec F S1x1 .f32) (c0_i32_18 : BitVec 32) (c1_i32 : BitVec 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (G_arg9 : BufTy.Contents (Elt F) arg9.view.ty) (G_arg12 : BufTy.Contents (Elt F) arg12.view.ty)

/-- The states of a trip entered at the point's state of `16 k` steps. -/
theorem tripStateAt_eq (k : Fin k1_t1_loop.trips) (f_arg12 : BufTy.Contents (Elt F) arg12.view.ty) (h : FVec F S8x1024 .f32)
    (hf : arg12.view.read (Elt F) f_arg12 = pointState v6 (arg2.view.read (Elt F) X_arg2) (arg3.view.read (Elt F) X_arg3) (arg10.view.read (Elt F) X_arg10)
      (arg11.view.read (Elt F) X_arg11) h (16 * k.val)) (s : ℕ) (hs : s ≤ 16) :
    tripStateAt arg2 arg3 arg10 arg11 arg12 v6 X_arg2 X_arg3 X_arg10 X_arg11 k f_arg12 s
      = pointState v6 (arg2.view.read (Elt F) X_arg2) (arg3.view.read (Elt F) X_arg3) (arg10.view.read (Elt F) X_arg10)
      (arg11.view.read (Elt F) X_arg11) h (16 * k.val + s) := by
  unfold tripStateAt
  have e12 : View.readAt (Elt F) arg12.view (Rect.unit (s := S8x1024) ![0, 0] ![8, 1024] inb_S8x1024_S8x1024_0_0).toLoadRect f_arg12 = arg12.view.read (Elt F) f_arg12 :=
    View.readAt_full arg12.view f_arg12 _
  have e2 : View.readAt (Elt F) arg2.view (Rect.unit (s := S1024x1152) ![0, 0] ![1024, 1152] inb_S1024x1152_S1024x1152_0_0).toLoadRect X_arg2
      = arg2.view.read (Elt F) X_arg2 := View.readAt_full arg2.view X_arg2 _
  rw [e12, e2, hf]
  exact tripState_eq_pointState v6 _ _ _ _ h _ _ _ k.val (rowOf_readAt arg3.view X_arg3) (rowsOf_readAt arg10.view X_arg10 k) (rowsOf_readAt arg11.view X_arg11 k) s hs

include 𝒱 c bd i harg1 harg2 harg3 harg4 harg5 harg6 harg7 harg8 harg9 harg10 harg11 harg12

/-- After `k` trips the carried state is the point's state of `16 k` steps. -/
theorem loop_state (k : ℕ) (hk : k ≤ k1_t1_loop.trips) :
    arg12.view.read (Elt F) (arg12.view.writes (Elt F) G_arg12 (pb_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k).2)
      = pointState v6 (arg2.view.read (Elt F) X_arg2) (arg3.view.read (Elt F) X_arg3) (arg10.view.read (Elt F) X_arg10) (arg11.view.read (Elt F) X_arg11)
      (arg12.view.read (Elt F) G_arg12) (16 * k) := by
  induction k with
  | zero => rfl
  | succ k ih =>
    have hk : k < k1_t1_loop.trips := hk
    have e := congrArg (·.2) (pb_k1_t1_succ (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 ⟨k, hk⟩)
    dsimp only at e
    rw [e]
    rw [trip_state, List.singleton_append]
    refine (View.read_writes_full arg12.view G_arg12 _ _ _).trans ?_
    rw [shapeCast_self]
    exact tripStateAt_eq (k := ⟨k, hk⟩) (f_arg12 := _) (h := _) (hf := ih (by omega)) (s := 16) (hs := le_refl _)

/-- After `k` trips the output block holds, at each time step below `16 k`, the state after that step. -/
theorem loop_out (k : ℕ) (hk : k ≤ k1_t1_loop.trips) (y : S128x8x1024.Idx) (hy : (y 0).val < 16 * k) :
    arg9.view.read (Elt F) (arg9.view.writes (Elt F) G_arg9 (pb_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k).1) y
      = pointState v6 (arg2.view.read (Elt F) X_arg2) (arg3.view.read (Elt F) X_arg3) (arg10.view.read (Elt F) X_arg10) (arg11.view.read (Elt F) X_arg11)
      (arg12.view.read (Elt F) G_arg12) ((y 0).val + 1) (ix2 (y 1) (y 2)) := by
  induction k with
  | zero => omega
  | succ k ih =>
    have hk : k < k1_t1_loop.trips := hk
    have hst := loop_state (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k (by omega)
    have e := congrArg (·.1) (pb_k1_t1_succ (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 ⟨k, hk⟩)
    dsimp only at e
    rw [e]
    have hs (s : ℕ) (h : s ≤ 16) := tripStateAt_eq (arg2 := arg2) (arg3 := arg3) (arg10 := arg10) (arg11 := arg11) (v6 := v6) (X_arg2 := X_arg2) (X_arg3 := X_arg3)
      (X_arg10 := X_arg10) (X_arg11 := X_arg11) (k := ⟨k, hk⟩) (f_arg12 := _) (h := _) (hf := hst) (s := s) (hs := h)
    rw [trip_out]
    simp only [List.cons_append, List.nil_append]
    refine (read_writes_step arg9.view G_arg9 (k1_off2_inb ⟨k, hk⟩ 15) _ _ y (16 * k + 15) (k1_off2_eq ⟨k, hk⟩ 15)).trans ?_
    by_cases h15 : (y 0).val = 16 * k + 15
    · rw [if_pos h15]
      exact (shapeCast_step _ (y 1) (y 2)).trans ((congrFun (hs 16 (by decide)) _).trans
        (congrFun (congrArg (pointState _ _ _ _ _ _) (by show 16 * k + 16 = (y 0).val + 1; omega)) _))
    rw [if_neg h15]
    refine (read_writes_step arg9.view G_arg9 (k1_off2_inb ⟨k, hk⟩ 14) _ _ y (16 * k + 14) (k1_off2_eq ⟨k, hk⟩ 14)).trans ?_
    by_cases h14 : (y 0).val = 16 * k + 14
    · rw [if_pos h14]
      exact (shapeCast_step _ (y 1) (y 2)).trans ((congrFun (hs 15 (by decide)) _).trans
        (congrFun (congrArg (pointState _ _ _ _ _ _) (by show 16 * k + 15 = (y 0).val + 1; omega)) _))
    rw [if_neg h14]
    refine (read_writes_step arg9.view G_arg9 (k1_off2_inb ⟨k, hk⟩ 13) _ _ y (16 * k + 13) (k1_off2_eq ⟨k, hk⟩ 13)).trans ?_
    by_cases h13 : (y 0).val = 16 * k + 13
    · rw [if_pos h13]
      exact (shapeCast_step _ (y 1) (y 2)).trans ((congrFun (hs 14 (by decide)) _).trans
        (congrFun (congrArg (pointState _ _ _ _ _ _) (by show 16 * k + 14 = (y 0).val + 1; omega)) _))
    rw [if_neg h13]
    refine (read_writes_step arg9.view G_arg9 (k1_off2_inb ⟨k, hk⟩ 12) _ _ y (16 * k + 12) (k1_off2_eq ⟨k, hk⟩ 12)).trans ?_
    by_cases h12 : (y 0).val = 16 * k + 12
    · rw [if_pos h12]
      exact (shapeCast_step _ (y 1) (y 2)).trans ((congrFun (hs 13 (by decide)) _).trans
        (congrFun (congrArg (pointState _ _ _ _ _ _) (by show 16 * k + 13 = (y 0).val + 1; omega)) _))
    rw [if_neg h12]
    refine (read_writes_step arg9.view G_arg9 (k1_off2_inb ⟨k, hk⟩ 11) _ _ y (16 * k + 11) (k1_off2_eq ⟨k, hk⟩ 11)).trans ?_
    by_cases h11 : (y 0).val = 16 * k + 11
    · rw [if_pos h11]
      exact (shapeCast_step _ (y 1) (y 2)).trans ((congrFun (hs 12 (by decide)) _).trans
        (congrFun (congrArg (pointState _ _ _ _ _ _) (by show 16 * k + 12 = (y 0).val + 1; omega)) _))
    rw [if_neg h11]
    refine (read_writes_step arg9.view G_arg9 (k1_off2_inb ⟨k, hk⟩ 10) _ _ y (16 * k + 10) (k1_off2_eq ⟨k, hk⟩ 10)).trans ?_
    by_cases h10 : (y 0).val = 16 * k + 10
    · rw [if_pos h10]
      exact (shapeCast_step _ (y 1) (y 2)).trans ((congrFun (hs 11 (by decide)) _).trans
        (congrFun (congrArg (pointState _ _ _ _ _ _) (by show 16 * k + 11 = (y 0).val + 1; omega)) _))
    rw [if_neg h10]
    refine (read_writes_step arg9.view G_arg9 (k1_off2_inb ⟨k, hk⟩ 9) _ _ y (16 * k + 9) (k1_off2_eq ⟨k, hk⟩ 9)).trans ?_
    by_cases h9 : (y 0).val = 16 * k + 9
    · rw [if_pos h9]
      exact (shapeCast_step _ (y 1) (y 2)).trans ((congrFun (hs 10 (by decide)) _).trans
        (congrFun (congrArg (pointState _ _ _ _ _ _) (by show 16 * k + 10 = (y 0).val + 1; omega)) _))
    rw [if_neg h9]
    refine (read_writes_step arg9.view G_arg9 (k1_off2_inb ⟨k, hk⟩ 8) _ _ y (16 * k + 8) (k1_off2_eq ⟨k, hk⟩ 8)).trans ?_
    by_cases h8 : (y 0).val = 16 * k + 8
    · rw [if_pos h8]
      exact (shapeCast_step _ (y 1) (y 2)).trans ((congrFun (hs 9 (by decide)) _).trans
        (congrFun (congrArg (pointState _ _ _ _ _ _) (by show 16 * k + 9 = (y 0).val + 1; omega)) _))
    rw [if_neg h8]
    refine (read_writes_step arg9.view G_arg9 (k1_off2_inb ⟨k, hk⟩ 7) _ _ y (16 * k + 7) (k1_off2_eq ⟨k, hk⟩ 7)).trans ?_
    by_cases h7 : (y 0).val = 16 * k + 7
    · rw [if_pos h7]
      exact (shapeCast_step _ (y 1) (y 2)).trans ((congrFun (hs 8 (by decide)) _).trans
        (congrFun (congrArg (pointState _ _ _ _ _ _) (by show 16 * k + 8 = (y 0).val + 1; omega)) _))
    rw [if_neg h7]
    refine (read_writes_step arg9.view G_arg9 (k1_off2_inb ⟨k, hk⟩ 6) _ _ y (16 * k + 6) (k1_off2_eq ⟨k, hk⟩ 6)).trans ?_
    by_cases h6 : (y 0).val = 16 * k + 6
    · rw [if_pos h6]
      exact (shapeCast_step _ (y 1) (y 2)).trans ((congrFun (hs 7 (by decide)) _).trans
        (congrFun (congrArg (pointState _ _ _ _ _ _) (by show 16 * k + 7 = (y 0).val + 1; omega)) _))
    rw [if_neg h6]
    refine (read_writes_step arg9.view G_arg9 (k1_off2_inb ⟨k, hk⟩ 5) _ _ y (16 * k + 5) (k1_off2_eq ⟨k, hk⟩ 5)).trans ?_
    by_cases h5 : (y 0).val = 16 * k + 5
    · rw [if_pos h5]
      exact (shapeCast_step _ (y 1) (y 2)).trans ((congrFun (hs 6 (by decide)) _).trans
        (congrFun (congrArg (pointState _ _ _ _ _ _) (by show 16 * k + 6 = (y 0).val + 1; omega)) _))
    rw [if_neg h5]
    refine (read_writes_step arg9.view G_arg9 (k1_off2_inb ⟨k, hk⟩ 4) _ _ y (16 * k + 4) (k1_off2_eq ⟨k, hk⟩ 4)).trans ?_
    by_cases h4 : (y 0).val = 16 * k + 4
    · rw [if_pos h4]
      exact (shapeCast_step _ (y 1) (y 2)).trans ((congrFun (hs 5 (by decide)) _).trans
        (congrFun (congrArg (pointState _ _ _ _ _ _) (by show 16 * k + 5 = (y 0).val + 1; omega)) _))
    rw [if_neg h4]
    refine (read_writes_step arg9.view G_arg9 (k1_off2_inb ⟨k, hk⟩ 3) _ _ y (16 * k + 3) (k1_off2_eq ⟨k, hk⟩ 3)).trans ?_
    by_cases h3 : (y 0).val = 16 * k + 3
    · rw [if_pos h3]
      exact (shapeCast_step _ (y 1) (y 2)).trans ((congrFun (hs 4 (by decide)) _).trans
        (congrFun (congrArg (pointState _ _ _ _ _ _) (by show 16 * k + 4 = (y 0).val + 1; omega)) _))
    rw [if_neg h3]
    refine (read_writes_step arg9.view G_arg9 (k1_off2_inb ⟨k, hk⟩ 2) _ _ y (16 * k + 2) (k1_off2_eq ⟨k, hk⟩ 2)).trans ?_
    by_cases h2 : (y 0).val = 16 * k + 2
    · rw [if_pos h2]
      exact (shapeCast_step _ (y 1) (y 2)).trans ((congrFun (hs 3 (by decide)) _).trans
        (congrFun (congrArg (pointState _ _ _ _ _ _) (by show 16 * k + 3 = (y 0).val + 1; omega)) _))
    rw [if_neg h2]
    refine (read_writes_step arg9.view G_arg9 (k1_off2_inb ⟨k, hk⟩ 1) _ _ y (16 * k + 1) (k1_off2_eq ⟨k, hk⟩ 1)).trans ?_
    by_cases h1 : (y 0).val = 16 * k + 1
    · rw [if_pos h1]
      exact (shapeCast_step _ (y 1) (y 2)).trans ((congrFun (hs 2 (by decide)) _).trans
        (congrFun (congrArg (pointState _ _ _ _ _ _) (by show 16 * k + 2 = (y 0).val + 1; omega)) _))
    rw [if_neg h1]
    refine (read_writes_step arg9.view G_arg9 (k1_off2_inb ⟨k, hk⟩ 0) _ _ y (16 * k + 0) (k1_off2_eq ⟨k, hk⟩ 0)).trans ?_
    by_cases h0 : (y 0).val = 16 * k + 0
    · rw [if_pos h0]
      exact (shapeCast_step _ (y 1) (y 2)).trans ((congrFun (hs 1 (by decide)) _).trans
        (congrFun (congrArg (pointState _ _ _ _ _ _) (by show 16 * k + 1 = (y 0).val + 1; omega)) _))
    rw [if_neg h0]
    exact ih (by omega) (by omega)

/-- The loop's block, from what the memrefs read as on entry. -/
theorem loop_out_eq (gam : FVec F S1x1 .f32) (w1 : Vec F S1024x1152 .bf16) (a : Vec F S16x1024 .f32) (G U : Vec F S1024x1024 .f32) (h : FVec F S8x1024 .f32)
    (ev : v6 = gam) (e2 : arg2.view.read (Elt F) X_arg2 = w1) (e3 : arg3.view.read (Elt F) X_arg3 = a) (e10 : arg10.view.read (Elt F) X_arg10 = G)
    (e11 : arg11.view.read (Elt F) X_arg11 = U) (e12 : arg12.view.read (Elt F) G_arg12 = h) :
    arg9.view.read (Elt F) (arg9.view.writes (Elt F) G_arg9 (pb_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k1_t1_loop.trips).1) = pointOut gam w1 a G U h := by
  subst ev e2 e3 e10 e11 e12
  funext y
  have hy : (y 0).val < 128 := (y 0).isLt
  exact loop_out (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k1_t1_loop.trips (le_refl _) y hy

/-- The loop's last state, from what the memrefs read as on entry. -/
theorem loop_state_eq (gam : FVec F S1x1 .f32) (w1 : Vec F S1024x1152 .bf16) (a : Vec F S16x1024 .f32) (G U : Vec F S1024x1024 .f32) (h : FVec F S8x1024 .f32)
    (ev : v6 = gam) (e2 : arg2.view.read (Elt F) X_arg2 = w1) (e3 : arg3.view.read (Elt F) X_arg3 = a) (e10 : arg10.view.read (Elt F) X_arg10 = G)
    (e11 : arg11.view.read (Elt F) X_arg11 = U) (e12 : arg12.view.read (Elt F) G_arg12 = h) :
    arg12.view.read (Elt F) (arg12.view.writes (Elt F) G_arg12 (pb_k1_t1 (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k1_t1_loop.trips).2) = pointState gam w1 a G U h 128 := by
  subst ev e2 e3 e10 e11 e12
  exact loop_state (F := F) 𝒱 c bd i arg1 harg1 arg2 harg2 arg3 harg3 arg4 harg4 arg5 harg5 arg6 harg6 arg7 harg7 arg8 harg8 arg9 harg9 arg10 harg10 arg11 harg11 arg12 harg12 v6 c0_i32_18 c1_i32 X_arg2 X_arg3 X_arg10 X_arg11 G_arg9 G_arg12 k1_t1_loop.trips (le_refl _)

end Trip

end Cert.KernelIdeal.Whole
-- ==== Proof.ScanRun.lean ====
/- The run of the scan kernel's body at a grid point: the output block and the carried state it leaves, at the first point and at a later one. -/
module

public import proofs.«01_k».proof.Proof.ScanBlocks
public import proofs.«01_k».proof.Proof.ScanPoint

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block a grid point stores, from its input blocks and the state it starts from. -/
def blockOf (x0 : Vec F S128x8x1024 .f32) (x1 : Vec F S1024x1152 .bf16) (x2 : Vec F S16x1024 .f32) (x3 : Vec F S1024x1024 .bf16) (x4 : Vec F S1x1024 .f32) (x5 : Vec F S1024x1024 .bf16) (x6 : Vec F S1x1024 .f32) (x7 : Vec F S1x1 .f32) (h : Vec F S8x1024 .f32) : Vec F S128x8x1024 .f32 :=
  pointOut (k1_pay203 x7) x1 x2 (k1_pay204 x0 x3 x4) (k1_pay205 x0 x5 x6) h

/-- The state a grid point ends in, from its input blocks and the state it starts from. -/
def endOf (x0 : Vec F S128x8x1024 .f32) (x1 : Vec F S1024x1152 .bf16) (x2 : Vec F S16x1024 .f32) (x3 : Vec F S1024x1024 .bf16) (x4 : Vec F S1x1024 .f32) (x5 : Vec F S1024x1024 .bf16) (x6 : Vec F S1x1024 .f32) (x7 : Vec F S1x1 .f32) (h : Vec F S8x1024 .f32) : Vec F S8x1024 .f32 :=
  pointState (k1_pay203 x7) x1 x2 (k1_pay204 x0 x3 x4) (k1_pay205 x0 x5 x6) h 128

/-- A load of a whole memref that holds `x`. -/
theorem readAt_whole {sp : Space} {s : Shape} {e : EltTy} {m : Memref sig .tc sp s e} (h : m.IsWhole) (x : Vec F s e) {off : Fin s.rank → ℕ}
    (inb : ∀ a, off a + s.size a ≤ s.size a) : m.view.readAt (Elt F) (Rect.unit off s.size inb).toLoadRect (h.unread x) = x :=
  (View.readAt_full m.view _ inb).trans (h.read_unread x)

/-- The body at a grid point that clears the carried state first: it leaves the point's block in the output and the last state in the carried scratch. -/
theorem scanRun_A (c : Dev nD) (i : grid1.Coords) (arg1 : Memref sig .tc .vmem S128x8x1024 .f32) (harg1 : arg1.IsWhole) (arg2 : Memref sig .tc .vmem S1024x1152 .bf16) (harg2 : arg2.IsWhole) (arg3 : Memref sig .tc .vmem S16x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1 .f32) (harg8 : arg8.IsWhole) (arg9 : Memref sig .tc .vmem S128x8x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (hc0 : cond1_0 i)
    (x0 : Vec F S128x8x1024 .f32) (x1 : Vec F S1024x1152 .bf16) (x2 : Vec F S16x1024 .f32) (x3 : Vec F S1024x1024 .bf16) (x4 : Vec F S1x1024 .f32) (x5 : Vec F S1024x1024 .bf16) (x6 : Vec F S1x1024 .f32) (x7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOf x0 x1 x2 x3 x4 x5 x6 x7 (k1_pay206 (F := F))) ∗ (∃ d, owns (c : Thread nD τ) arg10 fullShare d) ∗ (∃ d, owns (c : Thread nD τ) arg11 fullShare d) ∗ owns (c : Thread nD τ) arg12 fullShare (endOf x0 x1 x2 x3 x4 x5 x6 x7 (k1_pay206 (F := F)))) -∗ K ⟨⟩))
      ⊢ wp frame (wpE (defs₀ (F := F)) Variants.none c none) E (cc1_holo_net_vault_scan i arg1 harg1 arg2 harg2 arg3 harg3 arg4 harg4 arg5 harg5 arg6 harg6 arg7 harg7 arg8 harg8 arg9 harg9 arg10 harg10 arg11 harg11 arg12 harg12) K := by
  simp only [cc1_holo_net_vault_scan_eq_skeleton]; unfold cc1_holo_net_vault_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact loop_out_eq (F := F) (𝒱 := _) (c := _) (bd := _) (i := _) (c0_i32_18 := _) (c1_i32 := _) (G_arg9 := _) (harg1 := harg1) (harg2 := harg2) (harg3 := harg3) (harg4 := harg4) (harg5 := harg5) (harg6 := harg6) (harg7 := harg7) (harg8 := harg8) (harg9 := harg9) (harg10 := harg10) (harg11 := harg11) (harg12 := harg12) (gam := _) (w1 := _) (a := _) (G := _) (U := _) (h := _)
      (ev := congrArg k1_pay203 (readAt_whole harg8 _ _)) (e2 := harg2.read_unread _) (e3 := harg3.read_unread _)
      (e10 := (View.read_writes_full arg10.view _ _ _ _).trans (congr (congr (congrArg k1_pay204 (readAt_whole harg1 _ _)) (readAt_whole harg4 _ _)) (readAt_whole harg5 _ _)))
      (e11 := (View.read_writes_full arg11.view _ _ _ _).trans (congr (congr (congrArg k1_pay205 (readAt_whole harg1 _ _)) (readAt_whole harg6 _ _)) (readAt_whole harg7 _ _)))
      (e12 := View.read_writes_full arg12.view _ _ _ _)
  isplitl [HS0]
  · iexists _, _; isplitr; swap; · iexact HS0
    ipureintro; rfl
  isplitl [HS1]
  · iexists _, _; isplitr; swap; · iexact HS1
    ipureintro; rfl
  iexists _; isplitr; swap; · iexact HS2
  ipureintro
  rw [View.writes_append]
  exact loop_state_eq (F := F) (𝒱 := _) (c := _) (bd := _) (i := _) (c0_i32_18 := _) (c1_i32 := _) (G_arg9 := _) (harg1 := harg1) (harg2 := harg2) (harg3 := harg3) (harg4 := harg4) (harg5 := harg5) (harg6 := harg6) (harg7 := harg7) (harg8 := harg8) (harg9 := harg9) (harg10 := harg10) (harg11 := harg11) (harg12 := harg12) (gam := _) (w1 := _) (a := _) (G := _) (U := _) (h := _)
      (ev := congrArg k1_pay203 (readAt_whole harg8 _ _)) (e2 := harg2.read_unread _) (e3 := harg3.read_unread _)
      (e10 := (View.read_writes_full arg10.view _ _ _ _).trans (congr (congr (congrArg k1_pay204 (readAt_whole harg1 _ _)) (readAt_whole harg4 _ _)) (readAt_whole harg5 _ _)))
      (e11 := (View.read_writes_full arg11.view _ _ _ _).trans (congr (congr (congrArg k1_pay205 (readAt_whole harg1 _ _)) (readAt_whole harg6 _ _)) (readAt_whole harg7 _ _)))
      (e12 := View.read_writes_full arg12.view _ _ _ _)

/-- The body at a grid point that finds the state `h`: it leaves the point's block in the output and the last state in the carried scratch. -/
theorem scanRun_B (c : Dev nD) (i : grid1.Coords) (arg1 : Memref sig .tc .vmem S128x8x1024 .f32) (harg1 : arg1.IsWhole) (arg2 : Memref sig .tc .vmem S1024x1152 .bf16) (harg2 : arg2.IsWhole) (arg3 : Memref sig .tc .vmem S16x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1 .f32) (harg8 : arg8.IsWhole) (arg9 : Memref sig .tc .vmem S128x8x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (hc0 : ¬cond1_0 i)
    (x0 : Vec F S128x8x1024 .f32) (x1 : Vec F S1024x1152 .bf16) (x2 : Vec F S16x1024 .f32) (x3 : Vec F S1024x1024 .bf16) (x4 : Vec F S1x1024 .f32) (x5 : Vec F S1024x1024 .bf16) (x6 : Vec F S1x1024 .f32) (x7 : Vec F S1x1 .f32) (h : Vec F S8x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare h
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOf x0 x1 x2 x3 x4 x5 x6 x7 h) ∗ (∃ d, owns (c : Thread nD τ) arg10 fullShare d) ∗ (∃ d, owns (c : Thread nD τ) arg11 fullShare d) ∗ owns (c : Thread nD τ) arg12 fullShare (endOf x0 x1 x2 x3 x4 x5 x6 x7 h)) -∗ K ⟨⟩))
      ⊢ wp frame (wpE (defs₀ (F := F)) Variants.none c none) E (cc1_holo_net_vault_scan i arg1 harg1 arg2 harg2 arg3 harg3 arg4 harg4 arg5 harg5 arg6 harg6 arg7 harg7 arg8 harg8 arg9 harg9 arg10 harg10 arg11 harg11 arg12 harg12) K := by
  simp only [cc1_holo_net_vault_scan_eq_skeleton]; unfold cc1_holo_net_vault_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact loop_out_eq (F := F) (𝒱 := _) (c := _) (bd := _) (i := _) (c0_i32_18 := _) (c1_i32 := _) (G_arg9 := _) (harg1 := harg1) (harg2 := harg2) (harg3 := harg3) (harg4 := harg4) (harg5 := harg5) (harg6 := harg6) (harg7 := harg7) (harg8 := harg8) (harg9 := harg9) (harg10 := harg10) (harg11 := harg11) (harg12 := harg12) (gam := _) (w1 := _) (a := _) (G := _) (U := _) (h := _)
      (ev := congrArg k1_pay203 (readAt_whole harg8 _ _)) (e2 := harg2.read_unread _) (e3 := harg3.read_unread _)
      (e10 := (View.read_writes_full arg10.view _ _ _ _).trans (congr (congr (congrArg k1_pay204 (readAt_whole harg1 _ _)) (readAt_whole harg4 _ _)) (readAt_whole harg5 _ _)))
      (e11 := (View.read_writes_full arg11.view _ _ _ _).trans (congr (congr (congrArg k1_pay205 (readAt_whole harg1 _ _)) (readAt_whole harg6 _ _)) (readAt_whole harg7 _ _)))
      (e12 := harg12.read_unread _)
  isplitl [HS0]
  · iexists _, _; isplitr; swap; · iexact HS0
    ipureintro; rfl
  isplitl [HS1]
  · iexists _, _; isplitr; swap; · iexact HS1
    ipureintro; rfl
  iexists _; isplitr; swap; · iexact HS2
  ipureintro
  exact loop_state_eq (F := F) (𝒱 := _) (c := _) (bd := _) (i := _) (c0_i32_18 := _) (c1_i32 := _) (G_arg9 := _) (harg1 := harg1) (harg2 := harg2) (harg3 := harg3) (harg4 := harg4) (harg5 := harg5) (harg6 := harg6) (harg7 := harg7) (harg8 := harg8) (harg9 := harg9) (harg10 := harg10) (harg11 := harg11) (harg12 := harg12) (gam := _) (w1 := _) (a := _) (G := _) (U := _) (h := _)
      (ev := congrArg k1_pay203 (readAt_whole harg8 _ _)) (e2 := harg2.read_unread _) (e3 := harg3.read_unread _)
      (e10 := (View.read_writes_full arg10.view _ _ _ _).trans (congr (congr (congrArg k1_pay204 (readAt_whole harg1 _ _)) (readAt_whole harg4 _ _)) (readAt_whole harg5 _ _)))
      (e11 := (View.read_writes_full arg11.view _ _ _ _).trans (congr (congr (congrArg k1_pay205 (readAt_whole harg1 _ _)) (readAt_whole harg6 _ _)) (readAt_whole harg7 _ _)))
      (e12 := harg12.read_unread _)

end Cert.KernelIdeal.Whole
-- ==== Proof.ScanRegion.lean ====
/- The second pallas_call: what its result block and its carried state hold after each grid point, and the
   obligation its pipeline discharges, at any contents `V` found on entry. -/
module

public import proofs.«01_k».proof.Proof.ScanRun

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- `V`: the contents of the core's buffers when the region is entered
variable (V : (c : Dev nD) → (b : Ref sig .tc) → Buf (Elt F) ((c : Thread nD τ).loc b))

/-! ## What the outputs hold after each point -/

/-- The block and the carried state after grid point `n`: at the first point from the cleared state, later from the state the point before left. -/
def outsAt1 (c : Dev nD) : (n : ℕ) → n < cfg1.N → Vec F S128x8x1024 .f32 × Vec F S8x1024 .f32
  | 0, hn => (blockOf (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay206 (F := F)), endOf (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay206 (F := F)))
  | n + 1, hn => (blockOf (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, endOf (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- At the first point. -/
theorem outsAt1_A (c : Dev nD) (t : Fin cfg1.N) (h0 : t.val = 0) :
    outsAt1 V c t.val t.isLt = (blockOf (iblk1 V c 0 t) (iblk1 V c 1 t) (iblk1 V c 2 t) (iblk1 V c 3 t) (iblk1 V c 4 t) (iblk1 V c 5 t) (iblk1 V c 6 t) (iblk1 V c 7 t) (k1_pay206 (F := F)), endOf (iblk1 V c 0 t) (iblk1 V c 1 t) (iblk1 V c 2 t) (iblk1 V c 3 t) (iblk1 V c 4 t) (iblk1 V c 5 t) (iblk1 V c 6 t) (iblk1 V c 7 t) (k1_pay206 (F := F))) := by
  obtain ⟨n, hn⟩ := t
  cases n with
  | zero => exact rfl
  | succ n => exact absurd h0 (Nat.succ_ne_zero n)

/-- At a later point. -/
theorem outsAt1_B (c : Dev nD) (t : Fin cfg1.N) (h0 : ¬t.val = 0) :
    outsAt1 V c t.val t.isLt = (blockOf (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      endOf (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact absurd rfl h0
  | succ n => rfl

/-- The region invariant before position `n` with a scratch the kernel CARRIES between points: before the first point the
    class's (`ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ owns (c : Thread nD τ) scM1_2 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ owns (c : Thread nD τ) scM1_2 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ owns (c : Thread nD τ) scM1_2 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's staging buffer holds its block at every point. -/
theorem before1_0 (c : Dev nD) (t : Fin cfg1.N) (d) : (dat1 V c).before 0 t d = iblk1 V c 0 t :=
  (before1_of V (dat1 V c) 0 rfl (fun _ _ => rfl) (A_eq1 V c 0) (after1_0 V c) t d).trans (by unfold Dat.fetched Dat.blockOf iblk1; rw [A_eq1]; rfl)
theorem before1_1 (c : Dev nD) (t : Fin cfg1.N) (d) : (dat1 V c).before 1 t d = iblk1 V c 1 t :=
  (before1_of V (dat1 V c) 1 rfl (fun _ _ => rfl) (A_eq1 V c 1) (after1_1 V c) t d).trans (by unfold Dat.fetched Dat.blockOf iblk1; rw [A_eq1]; rfl)
theorem before1_2 (c : Dev nD) (t : Fin cfg1.N) (d) : (dat1 V c).before 2 t d = iblk1 V c 2 t :=
  (before1_of V (dat1 V c) 2 rfl (fun _ _ => rfl) (A_eq1 V c 2) (after1_2 V c) t d).trans (by unfold Dat.fetched Dat.blockOf iblk1; rw [A_eq1]; rfl)
theorem before1_3 (c : Dev nD) (t : Fin cfg1.N) (d) : (dat1 V c).before 3 t d = iblk1 V c 3 t :=
  (before1_of V (dat1 V c) 3 rfl (fun _ _ => rfl) (A_eq1 V c 3) (after1_3 V c) t d).trans (by unfold Dat.fetched Dat.blockOf iblk1; rw [A_eq1]; rfl)
theorem before1_4 (c : Dev nD) (t : Fin cfg1.N) (d) : (dat1 V c).before 4 t d = iblk1 V c 4 t :=
  (before1_of V (dat1 V c) 4 rfl (fun _ _ => rfl) (A_eq1 V c 4) (after1_4 V c) t d).trans (by unfold Dat.fetched Dat.blockOf iblk1; rw [A_eq1]; rfl)
theorem before1_5 (c : Dev nD) (t : Fin cfg1.N) (d) : (dat1 V c).before 5 t d = iblk1 V c 5 t :=
  (before1_of V (dat1 V c) 5 rfl (fun _ _ => rfl) (A_eq1 V c 5) (after1_5 V c) t d).trans (by unfold Dat.fetched Dat.blockOf iblk1; rw [A_eq1]; rfl)
theorem before1_6 (c : Dev nD) (t : Fin cfg1.N) (d) : (dat1 V c).before 6 t d = iblk1 V c 6 t :=
  (before1_of V (dat1 V c) 6 rfl (fun _ _ => rfl) (A_eq1 V c 6) (after1_6 V c) t d).trans (by unfold Dat.fetched Dat.blockOf iblk1; rw [A_eq1]; rfl)
theorem before1_7 (c : Dev nD) (t : Fin cfg1.N) (d) : (dat1 V c).before 7 t d = iblk1 V c 7 t :=
  (before1_of V (dat1 V c) 7 rfl (fun _ _ => rfl) (A_eq1 V c 7) (after1_7 V c) t d).trans (by unfold Dat.fetched Dat.blockOf iblk1; rw [A_eq1]; rfl)

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 9600000 in
/-- The body at any point: each input's buffer holds its block, the point is the first or a later one, and the run of that
    case applies. The invariant hands the body the carried state at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases hz : t.val = 0
    · rw [PhiS_castSucc V c t, PhiS_zero V c _ _ hz, PhiA1_eq]
      rw [outsAt1_A V c t hz]
      iintro ⟨⟨⟨HR0, HR1, HR2, HR3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (scanRun_A c (grid1.coords t) _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HR0 HR1 HR2 HR3 HS0 HS1 HS2 Hg]
      · isplitl [HR0 HR1 HR2 HR3 HS0 HS1 HS2]
        · isplitl [HR0]
          · iexact HR0
          isplitl [HR1]
          · iexact HR1
          isplitl [HR2]
          · iexact HR2
          isplitl [HR3]
          · iexact HR3
          isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; have hN : t.val < 32 := lt_of_lt_of_eq t.isLt (show cfg1.N = 32 from N_1); omega
  · by_cases hz : t.val = 0
    · exfalso; have hN : t.val < 32 := lt_of_lt_of_eq t.isLt (show cfg1.N = 32 from N_1); omega
    · rw [PhiS_castSucc V c t, PhiS_pos V c _ _ hz]
      rw [outsAt1_B V c t hz]
      iintro ⟨⟨⟨HR0, HR1, HR2, HR3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (scanRun_B c (grid1.coords t) _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HR0 HR1 HR2 HR3 HS0 HS1 HS2 Hg]
      · isplitl [HR0 HR1 HR2 HR3 HS0 HS1 HS2]
        · isplitl [HR0]
          · iexact HR0
          isplitl [HR1]
          · iexact HR1
          isplitl [HR2]
          · iexact HR2
          isplitl [HR3]
          · iexact HR3
          isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HS0, HS1, HS2⟩, Hg⟩
  isplitl [HR0 HR1 HR2 HR3 HS0 HS1 HS2]
  · isplitl [HR0]
    · iexact HR0
    isplitl [HR1]
    · iexact HR1
    isplitl [HR2]
    · iexact HR2
    isplitl [HR3]
    · iexact HR3
    isplitl [HS0]
    · iexact HS0
    isplitl [HS1]
    · iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Regions

end Cert.KernelIdeal.Whole

end
-- ==== Proof.KernelRun.lean ====
/- The kernel's whole program: the contents of its buffers after each host stretch and each pallas_call, and
   the run from the launch to the return. -/
module

public import proofs.«01_k».proof.Proof.CayleyRegion
public import proofs.«01_k».proof.Proof.ScanRegion

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the main function's segments from the launch to the return -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_cst_0, main_v6, main_v7, main_v8, main_v9, main_v10, main_v11, main_v12, main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (`withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m ρ) c); unfold Pipeline.ΦA
    iintro ⟨Hp, -, Hr⟩
    isplitl [Hr]; · iexact Hr
    iexact Hp
  hout c := by
    rw [Pipeline.ownSems0_none]; refine Idealize.SL.BI.BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run at any number system: from any memory with zero counters every weakly fair execution of @main
    terminates, and every final state has the argument arrays as launched, the result buffer at the contents `W5`
    computed segment by segment, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v19) = W5 m ρ c (Proc.devRef .tc main_v19))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       h c _ (mem_uc main_v19 (by decide))⟩), funext fun g => hz g (.inr (no_unscoped g.2))⟩)

end Cert.KernelIdeal.Whole

end
-- ==== Proof.Frames.lean ====
/- The frame claims: every program runs to the end, leaves its arguments as they were and every semaphore counter
   at zero. The kernel as printed and the idealized kernel are the same program, so one run serves both. -/
module

public import proofs.«01_k».proof.Defs
public import proofs.«01_k».proof.Proof.Gen.Kernel
public import proofs.«01_k».proof.Proof.Gen.Pre_finite_s
public import proofs.«01_k».proof.Proof.Gen.ReferenceIdeal.Run
public import proofs.«01_k».proof.Proof.KernelRun
public import Idealize.ShloMosaic.Lib.Quiescent
public import Idealize.ShloMosaic.Lib.Tactic

@[expose] public section

set_option maxRecDepth 65536

noncomputable section

namespace Cert.Frames

open Idealize.ShloMosaic Idealize.ShloMosaic.Tactic Idealize.SL.Sem

/-- The two kernels' main programs are one program. -/
theorem main_eq : Cert.Kernel.main (F := Bits) = Cert.KernelIdeal.main (F := Bits) := by rfl

/-- The two kernels' functions are the same. -/
theorem defs_eq : Cert.Kernel.defs (F := Bits) = Cert.KernelIdeal.defs (F := Bits) := by sl_kernel_rfl

/-- The kernel as printed runs and leaves its arguments unchanged. -/
theorem kernel_frame : Cert.quiescent_Kernel (hKernel := Cert.Kernel.Gen.facts) := by
  intro m g _
  rw [main_eq, defs_eq]
  exact (θ_run _ _ _).mono (fun r h => ⟨fun c => have a := h.1 c
    ⟨a.1, a.2.1, a.2.2.1, a.2.2.2.1, a.2.2.2.2.1, a.2.2.2.2.2.1, a.2.2.2.2.2.2.1, a.2.2.2.2.2.2.2.1,
      a.2.2.2.2.2.2.2.2.1⟩, h.2⟩) (Cert.KernelIdeal.Whole.run (F := Bits) m g)

/-- The idealized kernel runs and leaves its arguments unchanged. -/
theorem kernelIdeal_frame : Cert.quiescent_KernelIdeal (hKernelIdeal := Cert.KernelIdeal.Gen.facts) := by
  intro m g _
  exact (θ_run _ _ _).mono (fun r h => ⟨fun c => have a := h.1 c
    ⟨a.1, a.2.1, a.2.2.1, a.2.2.2.1, a.2.2.2.2.1, a.2.2.2.2.2.1, a.2.2.2.2.2.2.1, a.2.2.2.2.2.2.2.1,
      a.2.2.2.2.2.2.2.2.1⟩, h.2⟩) (Cert.KernelIdeal.Whole.run (F := Ideal) m g)

/-- The reference runs and leaves its arguments unchanged. It has no semaphore. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

end Cert.Frames

end
-- ==== Proof.CayleyAlgebra.lean ====
/- The two Cayley transforms over real matrices. The kernel's Newton–Schulz iterates are the partial sums of the
   geometric series of `S`, each step doubling the number of terms; the reference sums the same number of terms of
   the series of `−S`. For a skew-symmetric `S` the one transform is the other's transpose. -/
module

public import Mathlib.Data.EReal.Operations
public import Mathlib.LinearAlgebra.Matrix.Notation
public import Mathlib.Algebra.Ring.GeomSum

@[expose] public section

noncomputable section

namespace Cert.CayleyAlgebra

/-- Square real matrices. -/
abbrev M := Matrix (Fin 1024) (Fin 1024) ℝ

/-- The first `n` terms of the geometric series of `S`. -/
def series (S : M) (n : ℕ) : M := ∑ i ∈ Finset.range n, S ^ i

theorem series_one (S : M) : series S 1 = 1 := by
  simp [series]

theorem series_two (S : M) : series S 2 = 1 + S := by
  simp [series, Finset.sum_range_succ]

/-- Twice as many terms: the terms again, shifted by a power. -/
theorem series_double (S : M) (n : ℕ) : series S (n + n) = series S n + S ^ n * series S n := by
  unfold series
  rw [Finset.sum_range_add, Finset.mul_sum]
  simp only [pow_add]

theorem series_comm (S T : M) (h : Commute S T) (n : ℕ) : Commute (series S n) T :=
  Commute.sum_left _ _ _ fun i _ => h.pow_left i

theorem sub_mul_series (S : M) (n : ℕ) : (1 - S) * series S n = 1 - S ^ n :=
  mul_neg_geom_sum S n

/-- A Newton–Schulz step doubles the number of terms. -/
theorem newton_step (S : M) (n : ℕ) : series S n * ((2 : ℝ) • (1 : M) - (1 - S) * series S n) = series S (n + n) := by
  have hc : Commute (series S n) (S ^ n) := (series_comm S S (Commute.refl S) n).pow_right n
  rw [sub_mul_series, series_double, ← hc.eq, two_smul, ← sub_add, add_sub_cancel_right, mul_add, mul_one]

/-- For a skew-symmetric matrix the reference's transform is the transpose of the kernel's. -/
theorem transform_transpose (S : M) (hS : S.transpose = -S) (n : ℕ) (i j : Fin 1024) :
    (series (-S) n * (1 - S)) i j = (series S n * (1 + S)) j i := by
  have e : (series (-S) n * (1 - S)).transpose = series S n * (1 + S) := by
    rw [Matrix.transpose_mul, Matrix.transpose_sub, Matrix.transpose_one, hS, sub_neg_eq_add]
    have h1 : (series (-S) n).transpose = series S n := by
      unfold series
      rw [Matrix.transpose_sum]
      refine Finset.sum_congr rfl fun i _ => ?_
      rw [Matrix.transpose_pow, Matrix.transpose_neg, hS, neg_neg]
    rw [h1]
    exact ((series_comm S (1 + S) ((Commute.one_right S).add_right (Commute.refl S)) n).eq).symm
  rw [← e]
  rfl

/-! ## Real matrices among matrices of extended reals -/

/-- The extended-real entries `a` are those of the real matrix `A`. -/
def Holds (a : Fin 1024 → Fin 1024 → EReal) (A : M) : Prop := ∀ i j, a i j = ((A i j : ℝ) : EReal)

theorem coe_sum (f : Fin 1024 → ℝ) : ((∑ k, f k : ℝ) : EReal) = ∑ k, ((f k : ℝ) : EReal) :=
  map_sum (⟨⟨Real.toEReal, EReal.coe_zero⟩, EReal.coe_add⟩ : ℝ →+ EReal) f Finset.univ

theorem holds_mul {a b : Fin 1024 → Fin 1024 → EReal} {A B : M} (ha : Holds a A) (hb : Holds b B) :
    Holds (fun i j => ∑ k, a i k * b k j) (A * B) := by
  intro i j
  rw [Matrix.mul_apply, coe_sum]
  exact Finset.sum_congr rfl fun k _ => by rw [ha, hb, EReal.coe_mul]

theorem holds_add {a b : Fin 1024 → Fin 1024 → EReal} {A B : M} (ha : Holds a A) (hb : Holds b B) :
    Holds (fun i j => a i j + b i j) (A + B) := fun i j => by
  show a i j + b i j = _
  rw [ha, hb]
  exact (EReal.coe_add _ _).symm

theorem holds_sub {a b : Fin 1024 → Fin 1024 → EReal} {A B : M} (ha : Holds a A) (hb : Holds b B) :
    Holds (fun i j => a i j - b i j) (A - B) := fun i j => by
  show a i j - b i j = _
  rw [ha, hb]
  exact (EReal.coe_sub _ _).symm

theorem holds_neg {a : Fin 1024 → Fin 1024 → EReal} {A : M} (ha : Holds a A) : Holds (fun i j => -a i j) (-A) := fun i j => by
  show -a i j = _
  rw [ha]
  exact (EReal.coe_neg _).symm

theorem holds_one : Holds (fun i j => if i = j then 1 else 0) 1 := fun i j => by
  show (if i = j then (1 : EReal) else 0) = _
  rw [Matrix.one_apply]
  split
  · exact EReal.coe_one.symm
  · exact EReal.coe_zero.symm

theorem holds_two {a : Fin 1024 → Fin 1024 → EReal} {A : M} (ha : Holds a A) : Holds (fun i j => 2 * a i j) ((2 : ℝ) • A) := fun i j => by
  show 2 * a i j = _
  rw [ha]
  exact (EReal.coe_mul 2 _).symm

/-- Half the difference of a matrix and its transpose. -/
def skewOf (A : M) : M := (1 / 2 : ℝ) • (A - A.transpose)

theorem skewOf_transpose (A : M) : (skewOf A).transpose = -skewOf A := by
  unfold skewOf
  rw [Matrix.transpose_smul, Matrix.transpose_sub, Matrix.transpose_transpose, ← smul_neg, neg_sub]

theorem holds_skew {a : Fin 1024 → Fin 1024 → EReal} {A : M} (ha : Holds a A) :
    Holds (fun i j => (a i j - a j i) * ((1 / 2 : ℝ) : EReal)) (skewOf A) := fun i j => by
  show (a i j - a j i) * ((1 / 2 : ℝ) : EReal) = (((1 / 2 : ℝ) * (A i j - A j i) : ℝ) : EReal)
  rw [ha, ha, mul_comm (1 / 2 : ℝ), EReal.coe_mul, EReal.coe_sub]

end Cert.CayleyAlgebra

end
-- ==== Proof.Recurrence.lean ====
/- The recurrence both programs compute, over the extended reals and over plain functions of the coordinates. -/
module

public import Idealize.ShloMosaic.Lib.Pointwise

@[expose] public section

noncomputable section

namespace Cert.Recurrence

open Idealize.ShloMosaic

/-- An affine map of the inputs of time step `n`: `x wᵀ + b`. -/
def drive (x : Fin 8 → Fin 4096 → Fin 1024 → EReal) (w : Fin 1024 → Fin 1024 → EReal) (b : Fin 1024 → EReal) (n : ℕ) (r : Fin 8) (q : Fin 1024) : EReal :=
  (∑ k, x r ⟨n % 4096, Nat.mod_lt _ (by decide)⟩ k * w q k) + b q

/-- The gate of time step `n`: the logistic function of an affine map of its inputs. -/
def gate (x : Fin 8 → Fin 4096 → Fin 1024 → EReal) (w : Fin 1024 → Fin 1024 → EReal) (b : Fin 1024 → EReal) (n : ℕ) (r : Fin 8) (q : Fin 1024) : EReal :=
  Ideal.logistic (drive x w b n r q)

/-- The state after `n` time steps, from zero: `h ↦ γ (h D) + g ⊙ ((h Bᵀ) Aᵀ) + u`. -/
def state (gam : EReal) (D : Fin 1024 → Fin 1024 → EReal) (B : Fin 16 → Fin 1024 → EReal) (A : Fin 1024 → Fin 16 → EReal)
    (g u : ℕ → Fin 8 → Fin 1024 → EReal) : ℕ → Fin 8 → Fin 1024 → EReal
  | 0 => fun _ _ => 0
  | n + 1 => fun r q => gam * (∑ k, state gam D B A g u n r k * D k q)
      + g n r q * (∑ j, (∑ k, state gam D B A g u n r k * B j k) * A q j) + u n r q

end Cert.Recurrence

end
-- ==== Proof.ScanArray.lean ====
/- The blocks the scan's grid points read, and the array they write. -/
module

public import proofs.«01_k».proof.Proof.ScanRegion
public import Idealize.ShloMosaic.Lib.Pipeline.ValueKit
public import Idealize.ShloMosaic.Lib.PointwiseCore

@[expose] public section

set_option maxRecDepth 16384

noncomputable section

namespace Cert.KernelIdeal.Whole

open Cert.KernelIdeal.Gen
open Idealize.ShloMosaic Idealize.ShloMosaic.TcCoe
open Idealize.ShloMosaic.Pipeline (Dat Cfg Window)

variable {F : FTy → Type} [FloatOps F]
variable (V : (c : Dev nD) → (b : Ref sig .tc) → Buf (Elt F) ((c : Thread nD τ).loc b))

/-! ## The operands every point reads whole -/

/-- The seven operands after the first have one block, at index zero, at every point. -/
theorem index_zero : ∀ t : Fin cfg1.N, (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) ∧ (∀ a, win1_7.index t a = 0) := by
  decide +kernel

/-- Every point reads the Cayley matrix beside the low-rank factor whole. -/
theorem iblk1_1 (c : Dev nD) (t : Fin cfg1.N) : iblk1 V c 1 t = V c main_v9 :=
  funext fun y => congrArg (V c main_v9) (funext fun a => Fin.ext (win1_1.rect_emb_val_of_index_zero t a ((index_zero t).1 a) y))

/-- Every point reads the other low-rank factor whole. -/
theorem iblk1_2 (c : Dev nD) (t : Fin cfg1.N) : iblk1 V c 2 t = V c main_v10 :=
  funext fun y => congrArg (V c main_v10) (funext fun a => Fin.ext (win1_2.rect_emb_val_of_index_zero t a ((index_zero t).2.1 a) y))

/-- Every point reads the gate matrix whole. -/
theorem iblk1_3 (c : Dev nD) (t : Fin cfg1.N) : iblk1 V c 3 t = V c main_v12 :=
  funext fun y => congrArg (V c main_v12) (funext fun a => Fin.ext (win1_3.rect_emb_val_of_index_zero t a ((index_zero t).2.2.1 a) y))

/-- Every point reads the gate offset whole. -/
theorem iblk1_4 (c : Dev nD) (t : Fin cfg1.N) : iblk1 V c 4 t = V c main_v13 :=
  funext fun y => congrArg (V c main_v13) (funext fun a => Fin.ext (win1_4.rect_emb_val_of_index_zero t a ((index_zero t).2.2.2.1 a) y))

/-- Every point reads the input matrix whole. -/
theorem iblk1_5 (c : Dev nD) (t : Fin cfg1.N) : iblk1 V c 5 t = V c main_v15 :=
  funext fun y => congrArg (V c main_v15) (funext fun a => Fin.ext (win1_5.rect_emb_val_of_index_zero t a ((index_zero t).2.2.2.2.1 a) y))

/-- Every point reads the input offset whole. -/
theorem iblk1_6 (c : Dev nD) (t : Fin cfg1.N) : iblk1 V c 6 t = V c main_v16 :=
  funext fun y => congrArg (V c main_v16) (funext fun a => Fin.ext (win1_6.rect_emb_val_of_index_zero t a ((index_zero t).2.2.2.2.2.1 a) y))

/-- Every point reads the decay whole. -/
theorem iblk1_7 (c : Dev nD) (t : Fin cfg1.N) : iblk1 V c 7 t = V c main_v17 :=
  funext fun y => congrArg (V c main_v17) (funext fun a => Fin.ext (win1_7.rect_emb_val_of_index_zero t a ((index_zero t).2.2.2.2.2.2 a) y))

/-! ## The time steps a point reads and writes -/

/-- Point `t` reads time steps `128 t` to `128 t + 127`. -/
theorem iblk1_0 (c : Dev nD) (t : Fin cfg1.N) : iblk1 V c 0 t = fun y => V c main_v8
    (ix3 ⟨128 * t.val + (y 0).val, by have e : t.val < 32 := t.isLt; have h : (y 0).val < 128 := (y 0).isLt; omega⟩ (y 1) (y 2)) := by
  funext y
  unfold iblk1
  have h0 : ∀ t : Fin cfg1.N, win1_0.index t 0 = t.val := by decide +kernel
  have h1 : ∀ t : Fin cfg1.N, win1_0.index t 1 = 0 := by decide +kernel
  have h2 : ∀ t : Fin cfg1.N, win1_0.index t 2 = 0 := by decide +kernel
  have he : (win1_0.blk t).view.emb y = ix3 ⟨128 * t.val + (y 0).val, by have e : t.val < 32 := t.isLt; have h : (y 0).val < 128 := (y 0).isLt; omega⟩ (y 1) (y 2) := by
    funext a
    refine Fin.ext ?_
    fin_cases a
    · blk_simp [h0]; exact (congrArg (· + (y 0).val) (Nat.mul_comm t.val 128) : t.val * 128 + (y 0).val = 128 * t.val + (y 0).val)
    · blk_simp [h1]; rfl
    · blk_simp [h2]; rfl
  blk_simp
  exact congrArg (V c main_v8) he

/-- The array the pallas_call leaves: time step `n` is row `n mod 128` of point `n / 128`'s block. -/
theorem scan_array (c : Dev nD) : (dat1 V c).arrAt 8 cfg1.N = fun i =>
    (outsAt1 V c ((i 0).val / 128) (by have h : (i 0).val < 4096 := (i 0).isLt; have e : cfg1.N = 32 := rfl; omega)).1
      (ix3 ⟨(i 0).val % 128, by omega⟩ (i 1) (i 2)) := by
  refine (dat1 V c).arrAt_eq_of_covers 8 _ (by decide +kernel) fun t hf y => ?_
  have h0 : ∀ t : Fin cfg1.N, win1_8.index t 0 = t.val := by decide +kernel
  have h1 : ∀ t : Fin cfg1.N, win1_8.index t 1 = 0 := by decide +kernel
  have h2 : ∀ t : Fin cfg1.N, win1_8.index t 2 = 0 := by decide +kernel
  have he : (win1_8.blk t).view.emb y = ix3 ⟨128 * t.val + (y 0).val, by have e : t.val < 32 := t.isLt; have h : (y 0).val < 128 := (y 0).isLt; omega⟩ (y 1) (y 2) := by
    funext a
    refine Fin.ext ?_
    fin_cases a
    · blk_simp [h0]; exact (congrArg (· + (y 0).val) (Nat.mul_comm t.val 128) : t.val * 128 + (y 0).val = 128 * t.val + (y 0).val)
    · blk_simp [h1]; rfl
    · blk_simp [h2]; rfl
  refine Eq.trans (b := (outsAt1 V c t.val t.isLt).1 y) (by blk_simp; rw [after1_8]) ?_
  refine Eq.trans ?_ (congrArg (fun i : S4096x8x1024.Idx => (outsAt1 V c ((i 0).val / 128) (by have h : (i 0).val < 4096 := (i 0).isLt; have e : cfg1.N = 32 := rfl; omega)).1
      (ix3 ⟨(i 0).val % 128, by omega⟩ (i 1) (i 2))) he.symm)
  have hy : (y 0).val < 128 := (y 0).isLt
  have e1 : (128 * t.val + (y 0).val) / 128 = t.val := by omega
  have e2 : (128 * t.val + (y 0).val) % 128 = (y 0).val := by omega
  have key : ∀ (n : ℕ) (hn : n < cfg1.N) (z : S128x8x1024.Idx), n = t.val → z = y →
      (outsAt1 V c t.val t.isLt).1 y = (outsAt1 V c n hn).1 z := by
    rintro _ _ _ rfl rfl; rfl
  refine key _ _ _ e1 ?_
  refine Eq.trans ?_ (eq_ix3 y).symm
  exact congrArg (fun a => ix3 a (y 1) (y 2)) (Fin.ext e2)

end Cert.KernelIdeal.Whole

end
-- ==== Proof.ScanHistory.lean ====
/- The states of all 4096 time steps, and that the array the scan writes holds them. -/
module

public import proofs.«01_k».proof.Proof.ScanArray

@[expose] public section

set_option maxRecDepth 16384

noncomputable section

namespace Cert.KernelIdeal.Whole

open Cert.KernelIdeal.Gen
open Idealize.ShloMosaic Idealize.ShloMosaic.TcCoe

variable {F : FTy → Type} [FloatOps F]
variable (V : (c : Dev nD) → (b : Ref sig .tc) → Buf (Elt F) ((c : Thread nD τ).loc b))

/-- The grid point that holds time step `n`. -/
def pointOf (n : ℕ) : Fin cfg1.N := ⟨n / 128 % 32, Nat.mod_lt _ (by decide)⟩

/-- The state after `n` time steps of the whole sequence. -/
def history (c : Dev nD) : ℕ → FVec F S8x1024 .f32
  | 0 => k1_pay206
  | n + 1 => scanStep (k1_pay203 (V c main_v17)) (V c main_v9) (rowOf (V c main_v10))
      (rows8 (k1_pay204 (iblk1 V c 0 (pointOf n)) (V c main_v12) (V c main_v13)) n)
      (rows8 (k1_pay205 (iblk1 V c 0 (pointOf n)) (V c main_v15) (V c main_v16)) n) (history c n)

theorem history_succ (c : Dev nD) (n : ℕ) : history V c (n + 1)
    = scanStep (k1_pay203 (V c main_v17)) (V c main_v9) (rowOf (V c main_v10))
      (rows8 (k1_pay204 (iblk1 V c 0 (pointOf n)) (V c main_v12) (V c main_v13)) n)
      (rows8 (k1_pay205 (iblk1 V c 0 (pointOf n)) (V c main_v15) (V c main_v16)) n) (history V c n) := rfl

theorem rows8_shift (v : Vec F S1024x1024 .f32) (t r : ℕ) : rows8 v (128 * t + r) = rows8 v r := by
  have e : (128 * t + r) % 128 = r % 128 := by omega
  unfold rows8
  simp only [e]

/-- A point entered at the state of its first time step goes through the states of its time steps. -/
theorem pointState_history (c : Dev nD) (t : Fin cfg1.N) (r : ℕ) (hr : r ≤ 128) :
    pointState (k1_pay203 (V c main_v17)) (V c main_v9) (V c main_v10) (k1_pay204 (iblk1 V c 0 t) (V c main_v12) (V c main_v13))
      (k1_pay205 (iblk1 V c 0 t) (V c main_v15) (V c main_v16)) (history V c (128 * t.val)) r = history V c (128 * t.val + r) := by
  induction r with
  | zero => rfl
  | succ r ih =>
    have ht : t.val < 32 := t.isLt
    have e : pointOf (128 * t.val + r) = t := Fin.ext (by show (128 * t.val + r) / 128 % 32 = t.val; omega)
    rw [pointState, ih (by omega), ← Nat.add_assoc, history_succ, e, rows8_shift, rows8_shift]

/-- What point `n` stores and leaves, entered at the state of its first time step. -/
theorem outs_of_entry (c : Dev nD) (t : Fin cfg1.N) :
    (blockOf (iblk1 V c 0 t) (iblk1 V c 1 t) (iblk1 V c 2 t) (iblk1 V c 3 t) (iblk1 V c 4 t) (iblk1 V c 5 t) (iblk1 V c 6 t) (iblk1 V c 7 t) (history V c (128 * t.val)),
      endOf (iblk1 V c 0 t) (iblk1 V c 1 t) (iblk1 V c 2 t) (iblk1 V c 3 t) (iblk1 V c 4 t) (iblk1 V c 5 t) (iblk1 V c 6 t) (iblk1 V c 7 t) (history V c (128 * t.val)))
    = ((fun y => history V c (128 * t.val + ((y 0).val + 1)) (ix2 (y 1) (y 2)) : Vec F S128x8x1024 .f32), history V c (128 * t.val + 128)) := by
  rw [iblk1_1, iblk1_2, iblk1_3, iblk1_4, iblk1_5, iblk1_6, iblk1_7]
  refine Prod.ext ?_ (pointState_history V c t 128 (le_refl _))
  funext y
  exact congrFun (pointState_history V c t ((y 0).val + 1) (by have h : (y 0).val < 128 := (y 0).isLt; omega)) (ix2 (y 1) (y 2))

theorem outsAt1_history (c : Dev nD) (n : ℕ) (hn : n < cfg1.N) : outsAt1 V c n hn
    = ((fun y => history V c (128 * n + ((y 0).val + 1)) (ix2 (y 1) (y 2)) : Vec F S128x8x1024 .f32), history V c (128 * n + 128)) := by
  induction n with
  | zero => exact (outsAt1_A V c ⟨0, hn⟩ rfl).trans (outs_of_entry V c ⟨0, hn⟩)
  | succ n ih =>
    refine (outsAt1_B V c ⟨n + 1, hn⟩ (Nat.succ_ne_zero n)).trans ?_
    refine Eq.trans ?_ (outs_of_entry V c ⟨n + 1, hn⟩)
    have e : (outsAt1 V c n (Nat.lt_of_succ_lt hn)).2 = history V c (128 * (n + 1)) := congrArg Prod.snd (ih (Nat.lt_of_succ_lt hn))
    show (blockOf _ _ _ _ _ _ _ _ (outsAt1 V c n (Nat.lt_of_succ_lt hn)).2, endOf _ _ _ _ _ _ _ _ (outsAt1 V c n (Nat.lt_of_succ_lt hn)).2) = _
    rw [e]

/-- The array the scan writes: at time step `n`, the state after that step. -/
theorem scan_history (c : Dev nD) : (dat1 V c).arrAt 8 cfg1.N = fun i => history V c ((i 0).val + 1) (ix2 (i 1) (i 2)) := by
  rw [scan_array]
  funext i
  rw [outsAt1_history]
  show history V c (128 * ((i 0).val / 128) + ((i 0).val % 128 + 1)) (ix2 (i 1) (i 2)) = _
  have e : 128 * ((i 0).val / 128) + ((i 0).val % 128 + 1) = (i 0).val + 1 := by omega
  rw [e]

end Cert.KernelIdeal.Whole

end
-- ==== Proof.StepIdeal.lean ====
/- One time step of the kernel over the extended reals, read at an entry. -/
module

public import proofs.«01_k».proof.Proof.ScanPoint
public import Idealize.ShloMosaic.Lib.Pointwise

@[expose] public section

set_option maxRecDepth 16384

noncomputable section

namespace Cert.KernelIdeal.Whole

open Cert.KernelIdeal.Gen
open Idealize.ShloMosaic Idealize.ShloMosaic.TcCoe

/-- A sum of sixteen terms, written out from the left. -/
theorem sum16 (T : Fin 16 → EReal) : ∑ j, T j
    = T 0 + T 1 + T 2 + T 3 + T 4 + T 5 + T 6 + T 7 + T 8 + T 9 + T 10 + T 11 + T 12 + T 13 + T 14 + T 15 := by
  simp only [Fin.sum_univ_castSucc, Fin.sum_univ_zero, zero_add]
  rfl

/-- Column `j` of the low-rank factor: the fused weight's columns 1024 to 1039 hold it. -/
theorem pay8_at (h : Vec Ideal S8x1024 .f32) (w1 : Vec Ideal S1024x1152 .bf16) (r : Fin 8) (j : Fin 16) :
    k1_pay8 (F := Ideal) h w1 (ix2 r j) = ∑ k : Fin 1024, h (ix2 r k) * w1 (ix2 k ⟨1024 + j.val, by omega⟩) := by
  pointwise [k1_pay8, k1_pay6]

/-- The recurrent product: the fused weight's first 1024 columns. -/
theorem pay7_at (h : Vec Ideal S8x1024 .f32) (w1 : Vec Ideal S1024x1152 .bf16) (r : Fin 8) (q : Fin 1024) :
    k1_pay7 (F := Ideal) h w1 (ix2 r q) = ∑ k : Fin 1024, h (ix2 r k) * w1 (ix2 k ⟨q.val, by omega⟩) := by
  pointwise [k1_pay7, k1_pay6]

set_option maxHeartbeats 4000000 in
/-- One step at an entry. -/
theorem scanStep_at (gam : Vec Ideal S1x1 .f32) (w1 : Vec Ideal S1024x1152 .bf16) (a : Fin 16 → Vec Ideal S1x1024 .f32)
    (g u h : Vec Ideal S8x1024 .f32) (r : Fin 8) (q : Fin 1024) :
    scanStep (F := Ideal) gam w1 a g u h (ix2 r q)
      = gam (ix2 0 0) * (∑ k : Fin 1024, h (ix2 r k) * w1 (ix2 k ⟨q.val, by omega⟩))
        + g (ix2 r q) * (∑ j : Fin 16, (∑ k : Fin 1024, h (ix2 r k) * w1 (ix2 k ⟨1024 + j.val, by omega⟩)) * a j (ix2 0 q))
        + u (ix2 r q) := by
  unfold scanStep
  pointwise [k1_pay13, k1_pay12, k1_pay11, k1_pay10, k1_pay9]
  rw [sum16]
  simp only [pay7_at, pay8_at]

end Cert.KernelIdeal.Whole

end
-- ==== Proof.CayleyPay.lean ====
/- The matrix products of the Cayley pallas_call over the extended reals. -/
module

public import proofs.«01_k».proof.Proof.CayleyRegion
public import Idealize.ShloMosaic.Lib.Pointwise
public import Idealize.ShloMosaic.Lib.VecWindow

@[expose] public section

set_option maxRecDepth 16384

noncomputable section

namespace Cert.KernelIdeal.Whole

open Cert.KernelIdeal.Gen
open Idealize.ShloMosaic Idealize.ShloMosaic.TcCoe

/-- An entry of the identity matrix. -/
def eyeAt (i j : Fin 1024) : EReal := if i = j then 1 else 0

/-- The first iterate `I + S`. -/
def firstIterate (s : Vec Ideal S1024x1024 .f32) : Vec Ideal S1024x1024 .f32 :=
  fun y => eyeAt (y 0) (y 1) + s y

/-- The residual product `(I − S) X`. -/
def residual (s X : Vec Ideal S1024x1024 .f32) : Vec Ideal S1024x1024 .f32 :=
  fun y => ∑ k : Fin 1024, (eyeAt (y 0) k - s (ix2 (y 0) k)) * X (ix2 k (y 1))

/-- The Newton–Schulz update `X (2 I − R)`. -/
def update (X R : Vec Ideal S1024x1024 .f32) : Vec Ideal S1024x1024 .f32 :=
  fun y => ∑ k : Fin 1024, X (ix2 (y 0) k) * (2 * eyeAt k (y 1) - R (ix2 k (y 1)))

/-- The last product `X (I + S)`. -/
def lastProduct (s X : Vec Ideal S1024x1024 .f32) : Vec Ideal S1024x1024 .f32 :=
  fun y => ∑ k : Fin 1024, X (ix2 (y 0) k) * (eyeAt k (y 1) + s (ix2 k (y 1)))

/-- The word of the float 2 denotes 2. -/
theorem two_bits : Ideal.ofBits FTy.f32 1073741824#32 = (2 : EReal) := by
  rw [show (2 : EReal) = ((2 : ℝ) : EReal) by norm_cast]
  simp [Ideal.ofBits, Ideal.ieee, -EReal.coe_mul]; norm_num

/-- The kernel's comparison of the row's number and the column's gives the identity matrix. -/
theorem pay1_at (i j : Fin 1024) : k0_pay1 (F := Ideal) (ix2 i j) = eyeAt i j := by
  pointwise [k0_pay1, eyeAt]
  by_cases h : i = j
  · subst h
    simp [Scalar.select, IntOp.cmpi]
  · have h' : BitVec.ofNat 32 i.val ≠ BitVec.ofNat 32 j.val := fun e => h (Fin.ext (by
      have := congrArg BitVec.toNat e
      simp only [BitVec.toNat_ofNat] at this
      omega))
    rw [if_neg h]
    simp only [Scalar.select, IntOp.cmpi, beq_eq_false_iff_ne.mpr h']
    rfl

/-- The printed values of the body's stores: the first iterate, then a residual and an update for each of the six
    iterations, then the last product. -/
theorem pay2_eq (s : Vec Ideal S1024x1024 .f32) : k0_pay2 (F := Ideal) s = firstIterate s := by
  funext y
  idx_vars y
  pointwise [k0_pay2, firstIterate]
  simp only [pay1_at, two_bits]

theorem pay3_eq (s X : Vec Ideal S1024x1024 .f32) : k0_pay3 (F := Ideal) s X = residual s X := by
  funext y
  idx_vars y
  pointwise [k0_pay3, residual]
  simp only [pay1_at, two_bits]

theorem pay4_eq (X R : Vec Ideal S1024x1024 .f32) : k0_pay4 (F := Ideal) X R = update X R := by
  funext y
  idx_vars y
  pointwise [k0_pay4, update]
  simp only [pay1_at, two_bits]

theorem pay6_eq (s X : Vec Ideal S1024x1024 .f32) : k0_pay6 (F := Ideal) (k0_pay5 (F := Ideal) s) X = residual s X := by
  funext y
  idx_vars y
  pointwise [k0_pay6, k0_pay5, residual]
  simp only [pay1_at, two_bits]

theorem pay7_eq (X R : Vec Ideal S1024x1024 .f32) : k0_pay7 (F := Ideal) (k0_pay1 (F := Ideal)) X R = update X R := by
  funext y
  idx_vars y
  pointwise [k0_pay7, update]
  simp only [pay1_at, two_bits]

theorem pay9_eq (X R : Vec Ideal S1024x1024 .f32) : k0_pay9 (F := Ideal) (k0_pay1 (F := Ideal)) X R = update X R :=
  pay7_eq X R

theorem pay11_eq (X R : Vec Ideal S1024x1024 .f32) : k0_pay11 (F := Ideal) (k0_pay1 (F := Ideal)) X R = update X R :=
  pay7_eq X R

theorem pay16_eq (X R : Vec Ideal S1024x1024 .f32) : k0_pay16 (F := Ideal) (k0_pay1 (F := Ideal)) X R = update X R :=
  pay7_eq X R

theorem pay8_eq (s X : Vec Ideal S1024x1024 .f32) : k0_pay8 (F := Ideal) (k0_pay1 (F := Ideal)) s X = residual s X := by
  funext y
  idx_vars y
  pointwise [k0_pay8, residual]
  simp only [pay1_at, two_bits]

theorem pay10_eq (s X : Vec Ideal S1024x1024 .f32) : k0_pay10 (F := Ideal) (k0_pay1 (F := Ideal)) s X = residual s X :=
  pay8_eq s X

theorem pay12_eq (s X : Vec Ideal S1024x1024 .f32) : k0_pay12 (F := Ideal) (k0_pay1 (F := Ideal)) s X = residual s X :=
  pay8_eq s X

theorem pay15_eq (s X : Vec Ideal S1024x1024 .f32) : k0_pay15 (F := Ideal) (k0_pay1 (F := Ideal)) s X = residual s X :=
  pay8_eq s X

theorem pay14_eq (X R : Vec Ideal S1024x1024 .f32) : k0_pay14 (F := Ideal) X (k0_pay13 (F := Ideal) (k0_pay1 (F := Ideal))) R = update X R := by
  funext y
  idx_vars y
  pointwise [k0_pay14, k0_pay13, update]
  simp only [pay1_at, two_bits]

theorem pay17_eq (s X : Vec Ideal S1024x1024 .f32) : k0_pay17 (F := Ideal) (k0_pay1 (F := Ideal)) X s = lastProduct s X := by
  funext y
  idx_vars y
  pointwise [k0_pay17, lastProduct]
  simp only [pay1_at, two_bits]

/-- One Newton–Schulz iteration. -/
def iterate (s X : Vec Ideal S1024x1024 .f32) : Vec Ideal S1024x1024 .f32 := update X (residual s X)

section Loads
open kernelRun0_A

variable (c : Dev nD) (arg0 : Memref sig .tc .vmem S1024x1024 .f32) (harg0 : arg0.IsWhole)
  (arg2 arg3 : Memref sig .tc .vmem S1024x1024 .f32) (s : Vec Ideal S1024x1024 .f32)

/-- A whole load of a buffer that holds `x` reads `x`. -/
theorem load_whole {off : Fin S1024x1024.rank → ℕ} (inb : ∀ a, off a + S1024x1024.size a ≤ S1024x1024.size a) :
    arg0.view.readAt (Elt Ideal) (Rect.unit off S1024x1024.size inb).toLoadRect (harg0.unread s) = s :=
  (View.readAt_full arg0.view _ inb).trans (harg0.read_unread s)

/-- The first iterate, as the first iteration loads it; below, the residual and the new iterate of each of the six
    iterations, as the one after loads them. -/
theorem v15_eq : sl.v15 (F := Ideal) c arg0 harg0 arg2 s = firstIterate s := by
  unfold sl.v15 sl.HS0_1
  rw [View.readCov_full]
  rw [load_whole, pay2_eq]

theorem v23_eq : sl.v23 (F := Ideal) c arg0 harg0 arg2 arg3 s = residual s (firstIterate s) := by
  unfold sl.v23 sl.HS1_1
  rw [View.readCov_full, load_whole, v15_eq, pay3_eq]

theorem v32_eq : sl.v32 (F := Ideal) c arg0 harg0 arg2 arg3 s = (iterate s)^[1] (firstIterate s) := by
  unfold sl.v32 sl.HS0_2
  rw [View.readCov_full]
  rw [v15_eq, v23_eq, pay4_eq, Function.iterate_succ_apply']
  rfl

theorem v40_eq : sl.v40 (F := Ideal) c arg0 harg0 arg2 arg3 s = residual s ((iterate s)^[1] (firstIterate s)) := by
  unfold sl.v40 sl.HS1_2
  unfold sl.r
  rw [View.readCov_full, load_whole, v32_eq, pay6_eq]

theorem v49_eq : sl.v49 (F := Ideal) c arg0 harg0 arg2 arg3 s = (iterate s)^[2] (firstIterate s) := by
  unfold sl.v49 sl.HS0_3
  rw [View.readCov_full]
  rw [v32_eq, v40_eq, pay7_eq, Function.iterate_succ_apply']
  rfl

theorem v57_eq : sl.v57 (F := Ideal) c arg0 harg0 arg2 arg3 s = residual s ((iterate s)^[2] (firstIterate s)) := by
  unfold sl.v57 sl.HS1_3
  rw [View.readCov_full, load_whole, v49_eq, pay8_eq]

theorem v66_eq : sl.v66 (F := Ideal) c arg0 harg0 arg2 arg3 s = (iterate s)^[3] (firstIterate s) := by
  unfold sl.v66 sl.HS0_4
  rw [View.readCov_full]
  unfold sl.r_1
  rw [v49_eq, v57_eq, pay9_eq, Function.iterate_succ_apply']
  rfl

theorem v74_eq : sl.v74 (F := Ideal) c arg0 harg0 arg2 arg3 s = residual s ((iterate s)^[3] (firstIterate s)) := by
  unfold sl.v74 sl.HS1_4
  rw [View.readCov_full, load_whole, v66_eq, pay10_eq]

theorem v83_eq : sl.v83 (F := Ideal) c arg0 harg0 arg2 arg3 s = (iterate s)^[4] (firstIterate s) := by
  unfold sl.v83 sl.HS0_5
  rw [View.readCov_full]
  rw [v66_eq, v74_eq, pay11_eq, Function.iterate_succ_apply']
  rfl

theorem v91_eq : sl.v91 (F := Ideal) c arg0 harg0 arg2 arg3 s = residual s ((iterate s)^[4] (firstIterate s)) := by
  unfold sl.v91 sl.HS1_5
  rw [View.readCov_full, load_whole, v83_eq, pay12_eq]

theorem v100_eq : sl.v100 (F := Ideal) c arg0 harg0 arg2 arg3 s = (iterate s)^[5] (firstIterate s) := by
  unfold sl.v100 sl.HS0_6
  rw [View.readCov_full]
  unfold sl.r_2
  rw [v83_eq, v91_eq, pay14_eq, Function.iterate_succ_apply']
  rfl

theorem v108_eq : sl.v108 (F := Ideal) c arg0 harg0 arg2 arg3 s = residual s ((iterate s)^[5] (firstIterate s)) := by
  unfold sl.v108 sl.HS1_6
  rw [View.readCov_full, load_whole, v100_eq, pay15_eq]

theorem v114_eq : sl.v114 (F := Ideal) c arg0 harg0 arg2 arg3 s = (iterate s)^[6] (firstIterate s) := by
  unfold sl.v114 sl.HS0_7
  rw [View.readCov_full]
  rw [v100_eq, v108_eq, pay16_eq, Function.iterate_succ_apply']
  rfl

end Loads

/-- What the Cayley pallas_call computes from the skew matrix. -/
def cayley (s : Vec Ideal S1024x1024 .f32) : Vec Ideal S1024x1024 .f32 := lastProduct s ((iterate s)^[6] (firstIterate s))

/-- The body leaves the Cayley transform of its block in the output. -/
theorem outsAt0_eq (V : (c : Dev nD) → (b : Ref sig .tc) → Buf (Elt Ideal) ((c : Thread nD τ).loc b)) (c : Dev nD) (t : Fin cfg0.N) :
    outsAt0 V c t = cayley (iblk0 V c 0 t) := by
  unfold outsAt0 out0_A_1 kernelRun0_A
  simp only []
  refine (View.read_writes_full VO0_1 _ _ _ _).trans ?_
  rw [v114_eq]
  refine (congrArg _ (load_whole _ (hs0_0 t) _ _)).trans ?_
  rw [pay17_eq]
  rfl

end Cert.KernelIdeal.Whole

end
-- ==== Proof.CayleyArray.lean ====
/- The array the Cayley pallas_call writes. -/
module

public import proofs.«01_k».proof.Proof.CayleyPay
public import Idealize.ShloMosaic.Lib.Pipeline.ValueKit

@[expose] public section

set_option maxRecDepth 16384

noncomputable section

namespace Cert.KernelIdeal.Whole

open Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b))

/-- The input's one block is its array. -/
theorem emb0_0 (t : Fin cfg0.N) (y) : (win0_0.blk t).view.emb y = y := by
  funext a
  refine Fin.ext ?_
  have h0 : ∀ t : Fin cfg0.N, ∀ a, win0_0.index t a = 0 := by decide +kernel
  fin_cases a <;> blk_simp [h0]

/-- The output's one block is its array. -/
theorem emb0_1 (t : Fin cfg0.N) (y) : (win0_1.blk t).view.emb y = y := by
  funext a
  refine Fin.ext ?_
  have h0 : ∀ t : Fin cfg0.N, ∀ a, win0_1.index t a = 0 := by decide +kernel
  fin_cases a <;> blk_simp [h0]

theorem iblk0_0 (c : Dev nD) (t : Fin cfg0.N) : iblk0 V c 0 t = V c main_v3 := by
  funext y
  unfold iblk0
  blk_simp
  rw [emb0_0]

/-- The pallas_call leaves the Cayley transform of the skew matrix. -/
theorem cayley_array (c : Dev nD) : (dat0 V c).arrAt 1 cfg0.N = cayley (V c main_v3) := by
  refine (dat0 V c).arrAt_eq_of_covers 1 _ (by decide +kernel) fun t hf y => ?_
  blk_simp
  rw [after0_1, emb0_1, outsAt0_eq, iblk0_0]

end Cert.KernelIdeal.Whole

end
-- ==== Proof.HostReads.lean ====
/- What the host's operations around the two regions hold, from the arguments. -/
module

public import proofs.«01_k».proof.Proof.KernelRun

@[expose] public section

set_option maxRecDepth 16384

noncomputable section

namespace Cert.KernelIdeal.Whole

open Cert.KernelIdeal.Gen
open Idealize.ShloMosaic Idealize.ShloMosaic.TcCoe

variable {F : FTy → Type} [FloatOps F]

/-- The first stretch: half the difference of the parameter matrix and its transpose. -/
theorem pre_v3 (W : Valuation τ sig (Elt F)) : StableHlo.after hostOps0 W (Proc.devRef .tc main_v3)
    = mulf (subf (W (Proc.devRef .tc main_arg1)) (transpose S1024x1024 [1, 0] (W (Proc.devRef .tc main_arg1)) transposes_S1024x1024_S1024x1024_1_0))
        (broadcastInDim S1024x1024 ![] bcast_S_S1024x1024 (constant S_ .f32 0x3F000000#32)) := by
  after_results

section Between

variable (W : Valuation τ sig (Elt F))

/-- The fused weight: the Cayley product beside the low-rank factor's transpose beside zeros. -/
theorem between_v9 : StableHlo.after hostOps1 W (Proc.devRef .tc main_v9)
    = truncf .bf16 (concatenate S1024x1152 1 [⟨S1024x1024, (W (Proc.devRef .tc main_v4) : FVec F S1024x1024 .f32)⟩,
        ⟨S1024x16, transpose S1024x16 [1, 0] (W (Proc.devRef .tc main_arg4) : FVec F S16x1024 .f32) transposes_S16x1024_S1024x16_1_0⟩,
        ⟨S1024x112, broadcastInDim S1024x112 ![] bcast_S_S1024x112 (constant S_ .f32 0x00000000#32)⟩]
        concatenates_S1024x1024_S1024x16_S1024x112_S1024x1152_d1) bitsLt_bf16_f32 := by
  after_results
  rfl

theorem between_v8 : StableHlo.after hostOps1 W (Proc.devRef .tc main_v8)
    = transpose S4096x8x1024 [1, 0, 2] (W (Proc.devRef .tc main_arg0) : FVec F S8x4096x1024 .f32) transposes_S8x4096x1024_S4096x8x1024_1_0_2 := by
  after_results

theorem between_v10 : StableHlo.after hostOps1 W (Proc.devRef .tc main_v10)
    = transpose S16x1024 [1, 0] (W (Proc.devRef .tc main_arg3) : FVec F S1024x16 .f32) transposes_S1024x16_S16x1024_1_0 := by
  after_results

theorem between_v12 : StableHlo.after hostOps1 W (Proc.devRef .tc main_v12)
    = truncf .bf16 (transpose S1024x1024 [1, 0] (W (Proc.devRef .tc main_arg5) : FVec F S1024x1024 .f32) transposes_S1024x1024_S1024x1024_1_0) bitsLt_bf16_f32 := by
  after_results

theorem between_v13 : StableHlo.after hostOps1 W (Proc.devRef .tc main_v13)
    = shapeCast S1x1024 (W (Proc.devRef .tc main_arg6) : FVec F S1024 .f32) shapeCasts_S1024_S1x1024 := by
  after_results
  rfl

theorem between_v15 : StableHlo.after hostOps1 W (Proc.devRef .tc main_v15)
    = truncf .bf16 (transpose S1024x1024 [1, 0] (W (Proc.devRef .tc main_arg7) : FVec F S1024x1024 .f32) transposes_S1024x1024_S1024x1024_1_0) bitsLt_bf16_f32 := by
  after_results

theorem between_v16 : StableHlo.after hostOps1 W (Proc.devRef .tc main_v16)
    = shapeCast S1x1024 (W (Proc.devRef .tc main_arg8) : FVec F S1024 .f32) shapeCasts_S1024_S1x1024 := by
  after_results
  rfl

theorem between_v17 : StableHlo.after hostOps1 W (Proc.devRef .tc main_v17)
    = shapeCast S1x1 (W (Proc.devRef .tc main_arg2) : FVec F S1 .f32) shapeCasts_S1_S1x1 := by
  after_results
  rfl

end Between

/-- The last stretch: batch first again. -/
theorem post_v19 (W : Valuation τ sig (Elt F)) : StableHlo.after hostOps2 W (Proc.devRef .tc main_v19)
    = transpose S8x4096x1024 [1, 0, 2] (W (Proc.devRef .tc main_v18) : FVec F S4096x8x1024 .f32) transposes_S4096x8x1024_S8x4096x1024_1_0_2 := by
  after_results

end Cert.KernelIdeal.Whole

end
-- ==== Proof.KernelValue.lean ====
/- The kernel's result over the extended reals, as the recurrence over its arguments. -/
module

public import proofs.«01_k».proof.Proof.Recurrence
public import proofs.«01_k».proof.Proof.ScanHistory
public import proofs.«01_k».proof.Proof.StepIdeal
public import proofs.«01_k».proof.Proof.CayleyArray
public import proofs.«01_k».proof.Proof.HostReads

@[expose] public section

set_option maxRecDepth 16384

noncomputable section

namespace Cert.KernelIdeal.Whole

open Cert.KernelIdeal.Gen Cert.Recurrence
open Idealize.ShloMosaic Idealize.ShloMosaic.TcCoe

/-- A block's affine map at time step `s`, batch `r`: the kernel's rows are time step first. -/
theorem pay205_at (x : Vec Ideal S128x8x1024 .f32) (w : Vec Ideal S1024x1024 .bf16) (b : Vec Ideal S1x1024 .f32) (s : Fin 128) (r : Fin 8) (q : Fin 1024) :
    k1_pay205 (F := Ideal) x w b (ix2 ⟨8 * s.val + r.val, by omega⟩ q) = (∑ k : Fin 1024, x (ix3 s r k) * w (ix2 k q)) + b (ix2 0 q) := by
  have h1 : ∀ k : Fin 1024, k1_pay202 (F := Ideal) x (ix2 ⟨8 * s.val + r.val, by omega⟩ k) = x (ix3 s r k) := by
    intro k
    pointwise [k1_pay202]
  pointwise [k1_pay205]
  simp only [h1]

theorem pay204_at (x : Vec Ideal S128x8x1024 .f32) (w : Vec Ideal S1024x1024 .bf16) (b : Vec Ideal S1x1024 .f32) (i : S1024x1024.Idx) :
    k1_pay204 (F := Ideal) x w b i = Ideal.logistic (k1_pay205 (F := Ideal) x w b i) := by
  idx_vars i
  pointwise [k1_pay204, k1_pay205]

theorem pay203_at (g : Vec Ideal S1x1 .f32) : k1_pay203 (F := Ideal) g (ix2 0 0) = Ideal.logistic (g (ix2 0 0)) := by
  pointwise [k1_pay203]

theorem pay206_at (i : S8x1024.Idx) : k1_pay206 (F := Ideal) i = 0 := by
  idx_vars i
  pointwise [k1_pay206]

section Scan

variable (V : (c : Dev nD) → (b : Ref sig .tc) → Buf (Elt Ideal) ((c : Thread nD τ).loc b))

/-- The rows of a block's affine map at time step `n`. -/
theorem rows8_pay205 (c : Dev nD) (w : Vec Ideal S1024x1024 .bf16) (b : Vec Ideal S1x1024 .f32) (n : ℕ) (hn : n < 4096) (r : Fin 8) (q : Fin 1024) :
    rows8 (F := Ideal) (k1_pay205 (F := Ideal) (iblk1 V c 0 (pointOf n)) w b) n (ix2 r q)
      = drive (fun r n k => V c main_v8 (ix3 n r k)) (fun q k => w (ix2 k q)) (fun q => b (ix2 0 q)) n r q := by
  refine (pay205_at _ w b ⟨n % 128, Nat.mod_lt _ (by decide)⟩ r q).trans ?_
  have e : ∀ h : 128 * (n / 128 % 32) + n % 128 < 4096, (⟨128 * (n / 128 % 32) + n % 128, h⟩ : Fin 4096) = ⟨n % 4096, Nat.mod_lt _ (by decide)⟩ :=
    fun h => Fin.ext (by show 128 * (n / 128 % 32) + n % 128 = n % 4096; omega)
  rw [iblk1_0]
  refine congrArg (· + b (ix2 0 q)) (Finset.sum_congr rfl fun k _ => ?_)
  exact congrArg (fun i : Fin 4096 => @HMul.hMul EReal EReal EReal _ (V c main_v8 (ix3 i r k)) (w (ix2 k q))) (e _)

/-- The states of the scan are the recurrence's, over the arrays the scan reads. -/
theorem history_at (c : Dev nD) (n : ℕ) (hn : n ≤ 4096) (r : Fin 8) (q : Fin 1024) :
    history V c n (ix2 r q) = state (Ideal.logistic (V c main_v17 (ix2 0 0)))
      (fun k q => V c main_v9 (ix2 k ⟨q.val, by omega⟩)) (fun j k => V c main_v9 (ix2 k ⟨1024 + j.val, by omega⟩)) (fun q j => V c main_v10 (ix2 j q))
      (gate (fun r n k => V c main_v8 (ix3 n r k)) (fun q k => V c main_v12 (ix2 k q)) (fun q => V c main_v13 (ix2 0 q)))
      (drive (fun r n k => V c main_v8 (ix3 n r k)) (fun q k => V c main_v15 (ix2 k q)) (fun q => V c main_v16 (ix2 0 q))) n r q := by
  induction n generalizing r q with
  | zero => exact pay206_at _
  | succ n ih =>
    have hg : rows8 (F := Ideal) (k1_pay204 (F := Ideal) (iblk1 V c 0 (pointOf n)) (V c main_v12) (V c main_v13)) n (ix2 r q)
        = gate (fun r n k => V c main_v8 (ix3 n r k)) (fun q k => V c main_v12 (ix2 k q)) (fun q => V c main_v13 (ix2 0 q)) n r q :=
      (pay204_at _ _ _ _).trans (congrArg Ideal.logistic (rows8_pay205 V c (V c main_v12) (V c main_v13) n (by omega) r q))
    rw [history_succ, scanStep_at, state, hg, rows8_pay205 V c (V c main_v15) (V c main_v16) n (by omega) r q, pay203_at]
    have ih' := fun k => ih (by omega) r k
    simp only [ih']
    rfl

end Scan

section Result

variable (m : (ℓ : Loc nD τ sig) → Buf (Elt Ideal) ℓ) (ρ : Dev nD → PrngReg)

/-- The skew-symmetric matrix: half the difference of the parameters and their transpose. -/
def skew (a : FVec Ideal S1024x1024 .f32) : FVec Ideal S1024x1024 .f32 :=
  mulf (subf a (transpose S1024x1024 [1, 0] a transposes_S1024x1024_S1024x1024_1_0))
    (broadcastInDim S1024x1024 ![] bcast_S_S1024x1024 (constant S_ .f32 0x3F000000#32))

/-- The Cayley product the scan reads. -/
theorem cayley_value (c : Dev nD) : W2 m ρ c (Proc.devRef .tc main_v4) = cayley (skew (m ((c : Thread nD τ).loc main_arg1))) := by
  refine (W2_arr m ρ c 1).trans ((cayley_array (V1 m ρ) c).trans (congrArg cayley ?_))
  exact (pre_v3 (W0 m ρ c)).trans rfl

theorem v9_left (c : Dev nD) (k q : Fin 1024) : W3 m ρ c (Proc.devRef .tc main_v9) (ix2 k ⟨q.val, by omega⟩)
    = cayley (skew (m ((c : Thread nD τ).loc main_arg1))) (ix2 k q) := by
  refine (congrFun (between_v9 (W2 m ρ c)) _).trans ?_
  rw [cayley_value]
  pointwise

theorem v9_right (c : Dev nD) (k : Fin 1024) (j : Fin 16) : W3 m ρ c (Proc.devRef .tc main_v9) (ix2 k ⟨1024 + j.val, by omega⟩)
    = m ((c : Thread nD τ).loc main_arg4) (ix2 j k) := by
  refine (congrFun (between_v9 (W2 m ρ c)) _).trans ?_
  rw [W2_args m ρ c main_arg4 (by decide)]
  pointwise

theorem v8_at (c : Dev nD) (n : Fin 4096) (r : Fin 8) (k : Fin 1024) : W3 m ρ c (Proc.devRef .tc main_v8) (ix3 n r k)
    = m ((c : Thread nD τ).loc main_arg0) (ix3 r n k) := by
  refine (congrFun (between_v8 (W2 m ρ c)) _).trans ?_
  rw [W2_args m ρ c main_arg0 (by decide)]
  pointwise

theorem v10_at (c : Dev nD) (j : Fin 16) (q : Fin 1024) : W3 m ρ c (Proc.devRef .tc main_v10) (ix2 j q)
    = m ((c : Thread nD τ).loc main_arg3) (ix2 q j) := by
  refine (congrFun (between_v10 (W2 m ρ c)) _).trans ?_
  rw [W2_args m ρ c main_arg3 (by decide)]
  pointwise

theorem v12_at (c : Dev nD) (k q : Fin 1024) : W3 m ρ c (Proc.devRef .tc main_v12) (ix2 k q)
    = m ((c : Thread nD τ).loc main_arg5) (ix2 q k) := by
  refine (congrFun (between_v12 (W2 m ρ c)) _).trans ?_
  rw [W2_args m ρ c main_arg5 (by decide)]
  pointwise

theorem v13_at (c : Dev nD) (q : Fin 1024) : W3 m ρ c (Proc.devRef .tc main_v13) (ix2 0 q)
    = m ((c : Thread nD τ).loc main_arg6) (ix1 q) := by
  refine (congrFun (between_v13 (W2 m ρ c)) _).trans ?_
  rw [W2_args m ρ c main_arg6 (by decide)]
  pointwise

theorem v15_at (c : Dev nD) (k q : Fin 1024) : W3 m ρ c (Proc.devRef .tc main_v15) (ix2 k q)
    = m ((c : Thread nD τ).loc main_arg7) (ix2 q k) := by
  refine (congrFun (between_v15 (W2 m ρ c)) _).trans ?_
  rw [W2_args m ρ c main_arg7 (by decide)]
  pointwise

theorem v16_at (c : Dev nD) (q : Fin 1024) : W3 m ρ c (Proc.devRef .tc main_v16) (ix2 0 q)
    = m ((c : Thread nD τ).loc main_arg8) (ix1 q) := by
  refine (congrFun (between_v16 (W2 m ρ c)) _).trans ?_
  rw [W2_args m ρ c main_arg8 (by decide)]
  pointwise

theorem v17_at (c : Dev nD) : W3 m ρ c (Proc.devRef .tc main_v17) (ix2 0 0)
    = m ((c : Thread nD τ).loc main_arg2) (ix1 0) := by
  refine (congrFun (between_v17 (W2 m ρ c)) _).trans ?_
  rw [W2_args m ρ c main_arg2 (by decide)]
  pointwise

/-- The kernel's result: the recurrence's states, batch first. -/
theorem kernel_value (c : Dev nD) (r : Fin 8) (n : Fin 4096) (q : Fin 1024) :
    W5 m ρ c (Proc.devRef .tc main_v19) (ix3 r n q)
      = state (Ideal.logistic (m ((c : Thread nD τ).loc main_arg2) (ix1 0)))
        (fun k q => cayley (skew (m ((c : Thread nD τ).loc main_arg1))) (ix2 k q))
        (fun j k => m ((c : Thread nD τ).loc main_arg4) (ix2 j k)) (fun q j => m ((c : Thread nD τ).loc main_arg3) (ix2 q j))
        (gate (fun r n k => m ((c : Thread nD τ).loc main_arg0) (ix3 r n k)) (fun q k => m ((c : Thread nD τ).loc main_arg5) (ix2 q k))
          (fun q => m ((c : Thread nD τ).loc main_arg6) (ix1 q)))
        (drive (fun r n k => m ((c : Thread nD τ).loc main_arg0) (ix3 r n k)) (fun q k => m ((c : Thread nD τ).loc main_arg7) (ix2 q k))
          (fun q => m ((c : Thread nD τ).loc main_arg8) (ix1 q))) (n.val + 1) r q := by
  refine (congrFun (post_v19 (W4 m ρ c)) _).trans ?_
  have e : W4 m ρ c (Proc.devRef .tc main_v18) = fun i => history (V3 m ρ) c ((i 0).val + 1) (ix2 (i 1) (i 2)) :=
    (W4_arr m ρ c 8).trans (scan_history (V3 m ρ) c)
  rw [e]
  pointwise
  refine (history_at (V3 m ρ) c (n.val + 1) n.isLt r q).trans ?_
  have h9l := v9_left m ρ c
  have h9r := v9_right m ρ c
  have h8 := v8_at m ρ c
  have h10 := v10_at m ρ c
  have h12 := v12_at m ρ c
  have h13 := v13_at m ρ c
  have h15 := v15_at m ρ c
  have h16 := v16_at m ρ c
  have h17 := v17_at m ρ c
  simp only [V3, h9l, h9r, h8, h10, h12, h13, h15, h16, h17]

end Result

end Cert.KernelIdeal.Whole

end
-- ==== Proof.ReferenceEntry.lean ====
/- What the reference's buffers hold when its loop over the time steps is entered. -/
module

public import proofs.«01_k».proof.Proof.Gen.ReferenceIdeal.Run
public import Idealize.ShloMosaic.Lib.StableHlo.RunRead

@[expose] public section

set_option maxRecDepth 65536

noncomputable section

namespace Cert.ReferenceIdeal.Scan

open Cert.ReferenceIdeal.Gen
open Idealize.ShloMosaic Idealize.ShloMosaic.TcCoe Idealize.ShloMosaic.StableHlo

variable {F : FTy → Type} [FloatOps F]

/-- The skew-symmetric matrix: half the difference of the parameters and their transpose. -/
def skew (a : FVec F S1024x1024 .f32) : FVec F S1024x1024 .f32 :=
  mulf (subf a (transpose S1024x1024 [1, 0] a transposes_S1024x1024_S1024x1024_1_0))
    (broadcastInDim S1024x1024 ![] bcast_S_S1024x1024 (constant S_ .f32 0x3F000000#32))

/-- The identity matrix as the reference builds it. -/
def eye : FVec F S1024x1024 .f32 :=
  uitofp .f32 (cmpi .eq (addi (iotaInDim S1024x1024 32 0) (broadcastInDim S1024x1024 ![] bcast_S_S1024x1024 (constantI S_ 32 0#32))) (iotaInDim S1024x1024 32 1))

/-- A product of two square matrices. -/
def times (a b : FVec F S1024x1024 .f32) : FVec F S1024x1024 .f32 :=
  Host.dotGeneral dot_S1024x1024_S1024x1024_S1024x1024_1_0_0_1_n_n none a b

/-- One doubling of the Neumann series: the partial sum and the power. -/
def double (p : FVec F S1024x1024 .f32 × FVec F S1024x1024 .f32) : FVec F S1024x1024 .f32 × FVec F S1024x1024 .f32 :=
  (addf p.1 (times p.2 p.1), times p.2 p.2)

/-- The Cayley transform as the reference computes it: 128 terms of the Neumann series, times `I − S`. -/
def cayleyOf (s : FVec F S1024x1024 .f32) : FVec F S1024x1024 .f32 :=
  times (double^[7] (eye, Host.negf s)).1 (subf eye s)

variable (V : Valuation τ sig (Elt F))

set_option maxHeartbeats 4000000 in
theorem entry_v58_4 : after hostOps0 V (Proc.devRef .tc main_v58_4) = cayleyOf (skew (V (Proc.devRef .tc main_arg1))) := by
  after_reads_simp
  rfl

/-- An affine map of the inputs, batch first. -/
def affine (x : FVec F S8x4096x1024 .f32) (w : FVec F S1024x1024 .f32) (b : FVec F S1024 .f32) : FVec F S8x4096x1024 .f32 :=
  addf (Host.dotGeneral dot_S8x4096x1024_S1024x1024_S8x4096x1024_2_1_01_0_n_n none x w)
    (broadcastInDim S8x4096x1024 ![0, 1, 2] bcast_S1x1x1024_S8x4096x1024_0_1_2 (broadcastInDim S1x1x1024 ![2] bcast_S1024_S1x1x1024_2 b))

/-- The logistic function as the reference expands it. -/
def sigmoid3 (x : FVec F S8x4096x1024 .f32) : FVec F S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf x)))

/-- The logistic function of the scalar gain. -/
def sigmoid1 (x : FVec F S1 .f32) : FVec F S1 .f32 :=
  Host.divf (broadcastInDim S1 ![] bcast_S_S1 (constant S_ .f32 0x3F800000#32))
    (addf (broadcastInDim S1 ![] bcast_S_S1 (constant S_ .f32 0x3F800000#32)) (Host.exp (Host.negf x)))

theorem entry_v58_0 : after hostOps0 V (Proc.devRef .tc main_v58_0)
    = transpose S4096x8x1024 [1, 0, 2] (sigmoid3 (affine (V (Proc.devRef .tc main_arg0)) (V (Proc.devRef .tc main_arg5)) (V (Proc.devRef .tc main_arg6))))
      transposes_S8x4096x1024_S4096x8x1024_1_0_2 := by
  after_reads_simp
  rfl

theorem entry_v58_1 : after hostOps0 V (Proc.devRef .tc main_v58_1)
    = transpose S4096x8x1024 [1, 0, 2] (affine (V (Proc.devRef .tc main_arg0)) (V (Proc.devRef .tc main_arg7)) (V (Proc.devRef .tc main_arg8)))
      transposes_S8x4096x1024_S4096x8x1024_1_0_2 := by
  after_reads_simp
  rfl

theorem entry_v58_2 : after hostOps0 V (Proc.devRef .tc main_v58_2) = V (Proc.devRef .tc main_arg4) := by
  after_reads_simp
  rfl

theorem entry_v58_3 : after hostOps0 V (Proc.devRef .tc main_v58_3) = V (Proc.devRef .tc main_arg3) := by
  after_reads_simp
  rfl

theorem entry_v58_5 : after hostOps0 V (Proc.devRef .tc main_v58_5) = sigmoid1 (V (Proc.devRef .tc main_arg2)) := by
  after_reads_simp
  rfl

theorem entry_v58_6 : after hostOps0 V (Proc.devRef .tc main_v58_6) = (constantI S_ 32 0#32 : (⟨S_, .i32⟩ : BufTy).Contents (Elt F)) := by
  after_reads_simp
  rfl

theorem entry_v58_7 : after hostOps0 V (Proc.devRef .tc main_v58_7)
    = broadcastInDim S8x1024 ![] bcast_S_S8x1024 (constant S_ .f32 0x00000000#32 : FVec F S_ .f32) := by
  after_reads_simp
  rfl

end Cert.ReferenceIdeal.Scan

end
-- ==== Proof.CayleyEqual.lean ====
/- The kernel's Cayley product and the reference's Cayley transform are one matrix and its transpose, where the
   parameters are finite. -/
module

public import proofs.«01_k».proof.Pre_finite_s
public import proofs.«01_k».proof.Proof.Gen.Pre_finite_s
public import proofs.«01_k».proof.Proof.CayleyAlgebra
public import proofs.«01_k».proof.Proof.KernelValue
public import proofs.«01_k».proof.Proof.ReferenceEntry
public import Idealize.ShloMosaic.Lib.Pointwise
public import Idealize.ShloMosaic.Lib.ReduceAll

@[expose] public section

set_option maxRecDepth 16384

noncomputable section

namespace Cert.CayleyEqual

open Cert.CayleyAlgebra
open Idealize.ShloMosaic Idealize.ShloMosaic.TcCoe

/-- A square matrix of extended reals, at a row and a column. -/
abbrev Sq := FVec Ideal Cert.KernelIdeal.S1024x1024 .f32

/-- The entries of `v` are those of the real matrix `A`. -/
def Real2 (v : Sq) (A : M) : Prop := Holds (fun i j => v (ix2 i j)) A

/-- The word of the float one half denotes one half. -/
theorem half_bits : Ideal.ofBits FTy.f32 1056964608#32 = ((1 / 2 : ℝ) : EReal) := by
  simp [Ideal.ofBits, Ideal.ieee, -EReal.coe_mul]; norm_num

/-! ## The kernel's side -/

open Cert.KernelIdeal.Whole in
theorem kernel_skew {a : Sq} {A : M} (ha : Real2 a A) : Real2 (skew a) (skewOf A) := by
  intro i j
  refine Eq.trans ?_ (holds_skew ha i j)
  pointwise [skew]
  rw [half_bits]

open Cert.KernelIdeal.Whole in
theorem kernel_first {s : Sq} {S : M} (hs : Real2 s S) : Real2 (firstIterate s) (1 + S) :=
  holds_add holds_one hs

open Cert.KernelIdeal.Whole in
theorem kernel_step {s X : Sq} {S : M} (n : ℕ) (hs : Real2 s S) (hX : Real2 X (series S n)) : Real2 (iterate s X) (series S (n + n)) := by
  rw [← newton_step]
  exact holds_mul hX (holds_sub (holds_two holds_one) (holds_mul (holds_sub holds_one hs) hX))

open Cert.KernelIdeal.Whole in
theorem kernel_iterates {s : Sq} {S : M} (hs : Real2 s S) (n : ℕ) : Real2 ((iterate s)^[n] (firstIterate s)) (series S (2 ^ (n + 1))) := by
  induction n with
  | zero =>
    rw [show 2 ^ (0 + 1) = 2 from rfl, series_two]
    exact kernel_first hs
  | succ n ih =>
    rw [Function.iterate_succ_apply', pow_succ, mul_two]
    exact kernel_step _ hs ih

open Cert.KernelIdeal.Whole in
/-- The kernel's product is `(Σ_{i < 128} Sⁱ) (I + S)`. -/
theorem kernel_cayley {s : Sq} {S : M} (hs : Real2 s S) : Real2 (cayley s) (series S 128 * (1 + S)) :=
  holds_mul (kernel_iterates hs 6) (holds_add holds_one hs)

/-! ## The reference's side -/

open Cert.ReferenceIdeal.Scan

theorem reference_skew {a : Sq} {A : M} (ha : Real2 a A) : Real2 (skew a) (skewOf A) := by
  intro i j
  refine Eq.trans ?_ (holds_skew ha i j)
  pointwise [skew]
  rw [half_bits]

theorem eye_at (i j : Fin 1024) : eye (F := Ideal) (ix2 i j) = if i = j then 1 else 0 := by
  pointwise [eye]
  have e0 : IntOp.addi (BitVec.ofNat 32 i.val) 0#32 = BitVec.ofNat 32 i.val := BitVec.add_zero _
  rw [e0]
  by_cases h : i = j
  · subst h
    rw [if_pos rfl, IntOp.cmpi, beq_self_eq_true]
    show (((BitVec.ofBool true).toNat : ℝ) : EReal) = 1
    simp
  · have h' : BitVec.ofNat 32 i.val ≠ BitVec.ofNat 32 j.val := fun e => h (Fin.ext (by
      have := congrArg BitVec.toNat e
      simp only [BitVec.toNat_ofNat] at this
      omega))
    rw [if_neg h, IntOp.cmpi, beq_eq_false_iff_ne.mpr h']
    show (((BitVec.ofBool false).toNat : ℝ) : EReal) = 0
    simp

theorem reference_eye : Real2 (eye (F := Ideal)) 1 := fun i j => (eye_at i j).trans (holds_one i j)

theorem times_at (a b : Sq) (i j : Fin 1024) : times (F := Ideal) a b (ix2 i j) = ∑ k : Fin 1024, a (ix2 i k) * b (ix2 k j) := by
  pointwise [times]

theorem reference_times {a b : Sq} {A B : M} (ha : Real2 a A) (hb : Real2 b B) : Real2 (times (F := Ideal) a b) (A * B) :=
  fun i j => (times_at a b i j).trans (holds_mul ha hb i j)

theorem reference_doubles {s : Sq} {S : M} (hs : Real2 s S) (n : ℕ) :
    Real2 ((double (F := Ideal))^[n] (eye, Host.negf s)).1 (series (-S) (2 ^ n))
      ∧ Real2 ((double (F := Ideal))^[n] (eye, Host.negf s)).2 ((-S) ^ 2 ^ n) := by
  induction n with
  | zero =>
    rw [pow_zero, series_one, pow_one]
    exact ⟨reference_eye, holds_neg hs⟩
  | succ n ih =>
    rw [Function.iterate_succ_apply', pow_succ, mul_two, series_double, pow_add]
    exact ⟨holds_add ih.1 (reference_times ih.2 ih.1), reference_times ih.2 ih.2⟩

/-- The reference's transform is `(Σ_{i < 128} (−S)ⁱ) (I − S)`. -/
theorem reference_cayley {s : Sq} {S : M} (hs : Real2 s S) : Real2 (cayleyOf (F := Ideal) s) (series (-S) 128 * (1 - S)) :=
  reference_times (reference_doubles hs 7).1 (holds_sub reference_eye hs)

/-- One transform is the other's transpose, for a real parameter matrix. -/
theorem cayley_eq {a : Sq} {A : M} (ha : Real2 a A) (k q : Fin 1024) :
    Cert.KernelIdeal.Whole.cayley (Cert.KernelIdeal.Whole.skew a) (ix2 k q) = cayleyOf (F := Ideal) (skew (F := Ideal) a) (ix2 q k) := by
  refine (kernel_cayley (kernel_skew ha) k q).trans (Eq.trans ?_ (reference_cayley (reference_skew ha) q k).symm)
  rw [transform_transpose _ (skewOf_transpose A)]

/-! ## The precondition -/

/-- Where the precondition holds, the parameters are a real matrix. -/
theorem real_of_finite (x0 : FVec Ideal Cert.Pre_finite_s.S8x4096x1024 .f32) (a : Sq) (x2 : FVec Ideal Cert.Pre_finite_s.S1 .f32)
    (x3 : FVec Ideal Cert.Pre_finite_s.S1024x16 .f32) (x4 : FVec Ideal Cert.Pre_finite_s.S16x1024 .f32) (x5 : FVec Ideal Cert.Pre_finite_s.S1024x1024 .f32)
    (x6 : FVec Ideal Cert.Pre_finite_s.S1024 .f32) (x7 : FVec Ideal Cert.Pre_finite_s.S1024x1024 .f32) (x8 : FVec Ideal Cert.Pre_finite_s.S1024 .f32)
    (h : Cert.Pre_finite_s.fn (F := Ideal) x0 a x2 x3 x4 x5 x6 x7 x8 = fun _ => 1#1) :
    Real2 a (fun i j => (a (ix2 i j)).toReal) := by
  intro i j
  have h1 := congrFun h ix0
  unfold Cert.Pre_finite_s.fn at h1
  have h2 := Host.reduce_andi_all _ _ _ _ _ h1 (ix2 i j)
  have h3 : cmpf CmpFPredicate.olt (Host.absf a) (broadcastInDim Cert.Pre_finite_s.S1024x1024 ![] Cert.Pre_finite_s.Gen.bcast_S_S1024x1024
      (constant (F := Ideal) Cert.Pre_finite_s.S_ FTy.f32 2139095040#32)) (ix2 i j) = BitVec.ofBool (decide (max (a (ix2 i j)) (-a (ix2 i j)) < ⊤)) := by
    pointwise
    have e : Ideal.ofBits FTy.f32 2139095040#32 = ⊤ := by
      simp [Ideal.ofBits, Ideal.ieee]
    rw [e]
    rfl
  rw [h3] at h2
  have h4 : max (a (ix2 i j)) (-a (ix2 i j)) < ⊤ := by
    by_contra hn
    rw [decide_eq_false hn] at h2
    exact absurd h2 (by decide)
  have top : a (ix2 i j) ≠ ⊤ := ne_of_lt (lt_of_le_of_lt (le_max_left _ _) h4)
  have bot : a (ix2 i j) ≠ ⊥ := fun e => by
    rw [e, EReal.neg_bot] at h4
    exact absurd h4 (by simp)
  exact (EReal.coe_toReal top bot).symm

end Cert.CayleyEqual

end
-- ==== Proof.ReferenceStep.lean ====
/- One trip of the reference's loop over the extended reals, read at an entry. -/
module

public import proofs.«01_k».proof.Proof.ReferenceEntry
public import Idealize.ShloMosaic.Lib.Pointwise
public import Idealize.ShloMosaic.Lib.WordCmp

@[expose] public section

set_option maxRecDepth 65536

noncomputable section

namespace Cert.ReferenceIdeal.Scan

open Cert.ReferenceIdeal.Gen Cert.ReferenceIdeal.Value
open Idealize.ShloMosaic Idealize.ShloMosaic.TcCoe Idealize.ShloMosaic.StableHlo Idealize.ShloMosaic.WordCmp

section Generic

variable {F : FTy → Type} [FloatOps F]

/-- The contents of a counter. -/
abbrev Counter (F : FTy → Type) := (⟨S_, .i32⟩ : BufTy).Contents (Elt F)

/-- The counter after `n` trips. -/
def count (n : ℕ) : Counter F := fun _ => BitVec.ofNat 32 n

/-- Where a trip reads and writes a time-major array. -/
def startOf (n : Counter F) : Fin 3 → Int :=
  fun k => (((![n, constantI S_ 32 0#32, constantI S_ 32 0#32] : Fin 3 → Counter F)) k (Shape.Idx.first h_S_)).toInt

/-- The eight rows of time step `n`. -/
def rowsAt (x : FVec F S4096x8x1024 .f32) (n : Counter F) : FVec F S8x1024 .f32 :=
  shapeCast S8x1024 (Host.dynamicSlice S1x8x1024 x (startOf n) sliceFits_S4096x8x1024_S1x8x1024) shapeCasts_S1x8x1024_S8x1024

/-- One step of the recurrence, as the reference computes it. -/
def stepOf (g u : FVec F S8x1024 .f32) (B : FVec F S16x1024 .f32) (A : FVec F S1024x16 .f32) (D : FVec F S1024x1024 .f32) (gam : FVec F S1 .f32)
    (h : FVec F S8x1024 .f32) : FVec F S8x1024 .f32 :=
  addf (addf (mulf (broadcastInDim S8x1024 ![0, 1] bcast_S1x1_S8x1024_0_1 (broadcastInDim S1x1 ![1] bcast_S1_S1x1_1 gam))
      (Host.dotGeneral dot_S8x1024_S1024x1024_S8x1024_1_0_0_1_n_n none h (transpose S1024x1024 [1, 0] D transposes_S1024x1024_S1024x1024_1_0)))
    (mulf g (Host.dotGeneral dot_S8x16_S16x1024_S8x1024_1_0_0_1_n_n none
      (Host.dotGeneral dot_S8x1024_S1024x16_S8x16_1_0_0_1_n_n none h (transpose S1024x16 [1, 0] B transposes_S16x1024_S1024x16_1_0))
      (transpose S16x1024 [1, 0] A transposes_S1024x16_S16x1024_1_0)))) u

/-- The array of results with one time step written. -/
def write (ys : FVec F S4096x8x1024 .f32) (n : Counter F) (h : FVec F S8x1024 .f32) : FVec F S4096x8x1024 .f32 :=
  Host.dynamicUpdateSlice ys (broadcastInDim S1x8x1024 ![1, 2] bcast_S8x1024_S1x8x1024_1_2 h) (startOf n) updateFits_S4096x8x1024_S1x8x1024

theorem startOf_count (n : ℕ) (hn : n < 4096) : ∀ a : Fin 3, startOf (F := F) (count n) a = ((![n, 0, 0] : Fin 3 → ℕ) a : Int) := by
  intro a
  fin_cases a
  · exact toInt_ofNat_of_lt (by omega)
  · rfl
  · rfl

theorem rowsAt_at (x : FVec F S4096x8x1024 .f32) (n : ℕ) (hn : n < 4096) (r : Fin 8) (q : Fin 1024) :
    rowsAt x (count n) (ix2 r q) = x (ix3 ⟨n, hn⟩ r q) := by
  have hk : S4096x8x1024.Slices ![n, 0, 0] S1x8x1024 := ⟨rfl, fun a => by
    fin_cases a
    · show n + 1 ≤ 4096; omega
    · show 0 + 8 ≤ 8; omega
    · show 0 + 1024 ≤ 1024; omega⟩
  unfold rowsAt
  rw [dynamicSlice_eq_extract _ _ _ _ ![n, 0, 0] hk (startOf_count n hn)]
  pointwise

theorem write_at (ys : FVec F S4096x8x1024 .f32) (n : ℕ) (hn : n < 4096) (h : FVec F S8x1024 .f32) (t : Fin 4096) (r : Fin 8) (q : Fin 1024) :
    write ys (count n) h (ix3 t r q) = if t.val = n then h (ix2 r q) else ys (ix3 t r q) := by
  have hk : S4096x8x1024.Slices ![n, 0, 0] S1x8x1024 := ⟨rfl, fun a => by
    fin_cases a
    · show n + 1 ≤ 4096; omega
    · show 0 + 8 ≤ 8; omega
    · show 0 + 1024 ≤ 1024; omega⟩
  unfold write
  rw [dynamicUpdateSlice_eq_update _ _ _ _ ![n, 0, 0] hk (startOf_count n hn)]
  pointwise
  by_cases e : t.val = n
  · rw [if_pos e, dif_pos ⟨by omega, by omega⟩]
  · rw [if_neg e, dif_neg (fun h => e (by omega))]

variable (V : Valuation τ sig (Elt F))

theorem step_h : step_main_v58_7 V
    = stepOf (rowsAt (V (Proc.devRef .tc main_v58_0)) (V (Proc.devRef .tc main_v58_6))) (rowsAt (V (Proc.devRef .tc main_v58_1)) (V (Proc.devRef .tc main_v58_6)))
      (V (Proc.devRef .tc main_v58_2)) (V (Proc.devRef .tc main_v58_3)) (V (Proc.devRef .tc main_v58_4)) (V (Proc.devRef .tc main_v58_5))
      (V (Proc.devRef .tc main_v58_7)) := rfl

theorem step_ys : step_main_v58_8 V
    = write (V (Proc.devRef .tc main_v58_8)) (V (Proc.devRef .tc main_v58_6)) (step_main_v58_7 V) := by
  unfold step_main_v58_8 write startOf step_main_v58_7
  rfl

theorem step_count (n : ℕ) (h : V (Proc.devRef .tc main_v58_6) = count n) : step_main_v58_6 V = count (F := F) (n + 1) := by
  unfold step_main_v58_6
  rw [h]
  funext y
  exact (BitVec.ofNat_add n 1).symm

end Generic

/-- One step at an entry. -/
theorem stepOf_at (g u : FVec Ideal S8x1024 .f32) (B : FVec Ideal S16x1024 .f32) (A : FVec Ideal S1024x16 .f32) (D : FVec Ideal S1024x1024 .f32)
    (gam : FVec Ideal S1 .f32) (h : FVec Ideal S8x1024 .f32) (r : Fin 8) (q : Fin 1024) :
    stepOf g u B A D gam h (ix2 r q)
      = gam (ix1 0) * (∑ k : Fin 1024, h (ix2 r k) * D (ix2 q k))
        + g (ix2 r q) * (∑ j : Fin 16, (∑ k : Fin 1024, h (ix2 r k) * B (ix2 j k)) * A (ix2 q j)) + u (ix2 r q) := by
  pointwise [stepOf]

theorem affine_at (x : FVec Ideal S8x4096x1024 .f32) (w : FVec Ideal S1024x1024 .f32) (b : FVec Ideal S1024 .f32) (r : Fin 8) (n : Fin 4096) (q : Fin 1024) :
    affine x w b (ix3 r n q) = (∑ k : Fin 1024, x (ix3 r n k) * w (ix2 q k)) + b (ix1 q) := by
  pointwise [affine]

theorem sigmoid3_at (x : FVec Ideal S8x4096x1024 .f32) (r : Fin 8) (n : Fin 4096) (q : Fin 1024) :
    sigmoid3 x (ix3 r n q) = Ideal.logistic (x (ix3 r n q)) := by
  pointwise [sigmoid3]
  rfl

theorem sigmoid1_at (x : FVec Ideal S1 .f32) : sigmoid1 x (ix1 0) = Ideal.logistic (x (ix1 0)) := by
  pointwise [sigmoid1]
  rfl

end Cert.ReferenceIdeal.Scan

end
-- ==== Proof.ReferenceValue.lean ====
/- The reference's result over the extended reals, as the recurrence over its arguments. -/
module

public import proofs.«01_k».proof.Proof.Recurrence
public import proofs.«01_k».proof.Proof.ReferenceStep

@[expose] public section

set_option maxRecDepth 65536

noncomputable section

namespace Cert.ReferenceIdeal.Scan

open Cert.ReferenceIdeal.Gen Cert.ReferenceIdeal.Value Cert.Recurrence
open Idealize.ShloMosaic Idealize.ShloMosaic.TcCoe Idealize.ShloMosaic.StableHlo

variable (m : (ℓ : Loc nD τ sig) → Buf (Elt Ideal) ℓ) (c : Dev nD)

/-- The carried buffers after `n` trips. -/
def trips (n : ℕ) : Valuation τ sig (Elt Ideal) := STEP^[n] (entryContents preI m c)

/-- One trip more. -/
theorem trips_succ (n : ℕ) : trips m c (n + 1) = STEP (trips m c n) := Function.iterate_succ_apply' _ _ _

/-- A buffer that a trip leaves alone holds after any number of trips what it held at the loop's entry. -/
theorem trips_keep {b : DevRef τ sig} (hb : ∀ W : Valuation τ sig (Elt Ideal), STEP W b = W b) (n : ℕ) :
    trips m c n b = entryContents preI m c b := by
  induction n with
  | zero => rfl
  | succ n ih => rw [trips_succ, hb, ih]

/-- The counter counts the trips. -/
theorem trips_6 (n : ℕ) : trips m c n (Proc.devRef .tc main_v58_6) = count n := by
  induction n with
  | zero => exact entry_v58_6 (launchContents m c)
  | succ n ih => rw [trips_succ, STEP_main_v58_6, step_count _ n ih]

/-- The gate the loop carries, at a time step. -/
theorem entry_gate (n : ℕ) (hn : n < 4096) (r : Fin 8) (q : Fin 1024) :
    (entryContents preI m c (Proc.devRef .tc main_v58_0) : FVec Ideal S4096x8x1024 .f32) (ix3 ⟨n, hn⟩ r q)
      = gate (fun r n k => m ((c.tc : Thread nD τ).loc main_arg0) (ix3 r n k)) (fun q k => m ((c.tc : Thread nD τ).loc main_arg5) (ix2 q k))
          (fun q => m ((c.tc : Thread nD τ).loc main_arg6) (ix1 q)) n r q := by
  refine (congrFun (entry_v58_0 (launchContents m c)) _).trans ?_
  pointwise
  rw [sigmoid3_at, affine_at]
  have e : (⟨n % 4096, Nat.mod_lt _ (by decide)⟩ : Fin 4096) = ⟨n, hn⟩ := Fin.ext (Nat.mod_eq_of_lt hn)
  rw [gate, drive, e]

/-- The drive the loop carries, at a time step. -/
theorem entry_drive (n : ℕ) (hn : n < 4096) (r : Fin 8) (q : Fin 1024) :
    (entryContents preI m c (Proc.devRef .tc main_v58_1) : FVec Ideal S4096x8x1024 .f32) (ix3 ⟨n, hn⟩ r q)
      = drive (fun r n k => m ((c.tc : Thread nD τ).loc main_arg0) (ix3 r n k)) (fun q k => m ((c.tc : Thread nD τ).loc main_arg7) (ix2 q k))
          (fun q => m ((c.tc : Thread nD τ).loc main_arg8) (ix1 q)) n r q := by
  refine (congrFun (entry_v58_1 (launchContents m c)) _).trans ?_
  pointwise
  rw [affine_at]
  have e : (⟨n % 4096, Nat.mod_lt _ (by decide)⟩ : Fin 4096) = ⟨n, hn⟩ := Fin.ext (Nat.mod_eq_of_lt hn)
  rw [drive, e]

/-- The recurrence over the reference's arguments. -/
def states (n : ℕ) (r : Fin 8) (q : Fin 1024) : EReal :=
  state (Ideal.logistic (m ((c.tc : Thread nD τ).loc main_arg2) (ix1 0)))
    (fun k q => cayleyOf (F := Ideal) (skew (F := Ideal) (m ((c.tc : Thread nD τ).loc main_arg1))) (ix2 q k))
    (fun j k => m ((c.tc : Thread nD τ).loc main_arg4) (ix2 j k)) (fun q j => m ((c.tc : Thread nD τ).loc main_arg3) (ix2 q j))
    (gate (fun r n k => m ((c.tc : Thread nD τ).loc main_arg0) (ix3 r n k)) (fun q k => m ((c.tc : Thread nD τ).loc main_arg5) (ix2 q k))
      (fun q => m ((c.tc : Thread nD τ).loc main_arg6) (ix1 q)))
    (drive (fun r n k => m ((c.tc : Thread nD τ).loc main_arg0) (ix3 r n k)) (fun q k => m ((c.tc : Thread nD τ).loc main_arg7) (ix2 q k))
      (fun q => m ((c.tc : Thread nD τ).loc main_arg8) (ix1 q))) n r q

/-- The state the loop carries after `n` trips. -/
theorem trips_7 (n : ℕ) (hn : n ≤ 4096) (r : Fin 8) (q : Fin 1024) :
    (trips m c n (Proc.devRef .tc main_v58_7) : FVec Ideal S8x1024 .f32) (ix2 r q) = states m c n r q := by
  induction n generalizing r q with
  | zero =>
    refine (congrFun (entry_v58_7 (launchContents m c)) _).trans ?_
    pointwise
    rfl
  | succ n ih =>
    have hn' : n < 4096 := hn
    have e4 : trips m c n (Proc.devRef .tc main_v58_4) = cayleyOf (F := Ideal) (skew (F := Ideal) (m ((c.tc : Thread nD τ).loc main_arg1))) :=
      (trips_keep m c STEP_main_v58_4 n).trans (entry_v58_4 (launchContents m c))
    have e2 : trips m c n (Proc.devRef .tc main_v58_2) = m ((c.tc : Thread nD τ).loc main_arg4) :=
      (trips_keep m c STEP_main_v58_2 n).trans (entry_v58_2 (launchContents m c))
    have e3 : trips m c n (Proc.devRef .tc main_v58_3) = m ((c.tc : Thread nD τ).loc main_arg3) :=
      (trips_keep m c STEP_main_v58_3 n).trans (entry_v58_3 (launchContents m c))
    have e5 : trips m c n (Proc.devRef .tc main_v58_5) = sigmoid1 (F := Ideal) (m ((c.tc : Thread nD τ).loc main_arg2)) :=
      (trips_keep m c STEP_main_v58_5 n).trans (entry_v58_5 (launchContents m c))
    rw [trips_succ, STEP_main_v58_7, step_h]
    refine (stepOf_at _ _ _ _ _ _ _ r q).trans ?_
    rw [trips_6, rowsAt_at _ n hn', rowsAt_at _ n hn', trips_keep m c STEP_main_v58_0, trips_keep m c STEP_main_v58_1, entry_gate m c n hn', entry_drive m c n hn', e2, e3, e4, e5, sigmoid1_at]
    have ih' := fun k => ih (Nat.le_of_lt hn') r k
    simp only [ih']
    rfl

/-- The results the loop carries after `n` trips: the first `n` time steps' states. -/
theorem trips_8 (n : ℕ) (hn : n ≤ 4096) (t : Fin 4096) (ht : t.val < n) (r : Fin 8) (q : Fin 1024) :
    (trips m c n (Proc.devRef .tc main_v58_8) : FVec Ideal S4096x8x1024 .f32) (ix3 t r q) = states m c (t.val + 1) r q := by
  induction n with
  | zero => exact absurd ht (Nat.not_lt_zero _)
  | succ n ih =>
    have hn' : n < 4096 := hn
    have h7 := trips_7 m c (n + 1) hn r q
    rw [trips_succ, STEP_main_v58_7] at h7
    rw [trips_succ, STEP_main_v58_8, step_ys, trips_6]
    refine (write_at _ n hn' _ t r q).trans ?_
    by_cases e : t.val = n
    · rw [if_pos e, e]
      exact h7
    · rw [if_neg e]
      exact ih (Nat.le_of_lt hn') (by omega)

/-- The reference's result: the recurrence's states, batch first. -/
theorem reference_value (r : Fin 8) (n : Fin 4096) (q : Fin 1024) :
    (out_main_v59 (STEP^[4096] (entryContents preI m c)) : FVec Ideal S8x4096x1024 .f32) (ix3 r n q) = states m c (n.val + 1) r q := by
  refine Eq.trans ?_ (trips_8 m c 4096 (le_refl _) n n.isLt r q)
  unfold out_main_v59
  pointwise
  rfl

end Cert.ReferenceIdeal.Scan

end
-- ==== Proof.Algebraic.lean ====
/- The algebraic claim: over the extended reals the kernel and the reference end with the same states at every batch
   row, time step and channel, where the parameters are finite. -/
module

public import proofs.«01_k».proof.Defs
public import proofs.«01_k».proof.Proof.Gen.Kernel
public import proofs.«01_k».proof.Proof.CayleyEqual
public import proofs.«01_k».proof.Proof.KernelValue
public import proofs.«01_k».proof.Proof.ReferenceValue
public import Idealize.ShloMosaic.Lib.Tactic

@[expose] public section

set_option maxRecDepth 65536

noncomputable section

namespace Cert.Algebraic

open Idealize.ShloMosaic Idealize.ShloMosaic.TcCoe Idealize.ShloMosaic.Tactic Idealize.SL.Sem

/-- A memory of the idealized kernel. -/
abbrev KMem := (ℓ : Loc Cert.KernelIdeal.nD Cert.KernelIdeal.τ Cert.KernelIdeal.sig) → Buf (Elt Ideal) ℓ

/-- A memory of the reference. -/
abbrev RMem := (ℓ : Loc Cert.ReferenceIdeal.nD Cert.ReferenceIdeal.τ Cert.ReferenceIdeal.sig) → Buf (Elt Ideal) ℓ

/-- From equal arguments with finite parameters, the reference's result is the kernel's. -/
theorem value_eq (m : KMem) (g : Dev Cert.KernelIdeal.nD → PrngReg) (m' : RMem)
    (hfin : Cert.Pre_KernelIdeal_finite_s (hPre_finite_s := Cert.Pre_finite_s.Gen.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.out_main_v59 (F := Ideal) (Cert.ReferenceIdeal.Value.STEP^[4096] (StableHlo.entryContents Cert.ReferenceIdeal.Value.preI m' c)) : FVec Ideal Cert.KernelIdeal.S8x4096x1024 .f32)
      = Cert.KernelIdeal.Whole.W5 m g c (Proc.devRef .tc Cert.KernelIdeal.main_v19) := by
  funext i
  rw [eq_ix3 i]
  refine (Cert.ReferenceIdeal.Scan.reference_value m' c (i 0) (i 1) (i 2)).trans
    (Eq.trans ?_ (Cert.KernelIdeal.Whole.kernel_value m g c (i 0) (i 1) (i 2)).symm)
  unfold Cert.ReferenceIdeal.Scan.states
  rw [h0, h1, h2, h3, h4, h5, h6, h7, h8]
  have hd := fun k q => (Cert.CayleyEqual.cayley_eq (Cert.CayleyEqual.real_of_finite _ _ _ _ _ _ _ _ _ (hfin c)) k q).symm
  rw [funext fun k => funext fun q => hd k q]

/-- The algebraic claim. -/
theorem algebraic : Cert.algebraic_KernelIdeal_ReferenceIdeal_pre_finite_s (hKernelIdeal := Cert.KernelIdeal.Gen.facts)
    (hReferenceIdeal := Cert.ReferenceIdeal.Gen.facts) (hPre_finite_s := Cert.Pre_finite_s.Gen.facts) := by
  intro m g m' g' hfin harg
  refine ⟨fun c => Cert.KernelIdeal.Whole.W5 m g c (Proc.devRef .tc Cert.KernelIdeal.main_v19), ?_, ?_⟩
  · exact (θ_run _ _ _).mono (fun r h c => have a := h.1 c
      ⟨a.2.2.2.2.2.2.2.2.2, a.1, a.2.1, a.2.2.1, a.2.2.2.1, a.2.2.2.2.1, a.2.2.2.2.2.1, a.2.2.2.2.2.2.1,
        a.2.2.2.2.2.2.2.1, a.2.2.2.2.2.2.2.2.1⟩) (Cert.KernelIdeal.Whole.run (F := Ideal) m g)
  · refine (θ_run _ _ _).mono (fun r h c => ?_) (Cert.ReferenceIdeal.Value.run (F := Ideal) m' g')
    obtain ⟨h0, h1, h2, h3, h4, h5, h6, h7, h8⟩ := harg c
    exact ⟨(h c).1.trans (value_eq m g m' hfin c h0 h1 h2 h3 h4 h5 h6 h7 h8), (h c).2⟩

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_s
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem Cert.Kernel

/-- All claims together. -/
theorem claim : Cert.Claim := ⟨Cert.Kernel.Gen.facts, Cert.KernelIdeal.Gen.facts, Cert.ReferenceIdeal.Gen.facts, Cert.Pre_finite_s.Gen.facts,
  Cert.Frames.kernel_frame, Cert.Frames.kernelIdeal_frame, fun m g _ => Cert.Frames.kernelIdeal_frame m g trivial,
  Cert.Frames.reference_frame, fun m g _ => Cert.Frames.reference_frame m g trivial, trivial, Cert.Algebraic.algebraic⟩

end Cert.Proof

end
